-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S8x32x256 : Shape := ⟨3, ![8, 32, 256]⟩
abbrev S8x5x32x256 : Shape := ⟨4, ![8, 5, 32, 256]⟩
abbrev S8x5 : Shape := ⟨2, ![8, 5]⟩
abbrev S_ : Shape := ⟨0, ![]⟩
abbrev S32x256 : Shape := ⟨2, ![32, 256]⟩
abbrev S32x512 : Shape := ⟨2, ![32, 512]⟩
abbrev S1x32x256 : Shape := ⟨3, ![1, 32, 256]⟩
abbrev S1x1 : Shape := ⟨2, ![1, 1]⟩
abbrev S1x1x32x256 : Shape := ⟨4, ![1, 1, 32, 256]⟩

abbrev nBuf : Space → Nat
  | .hbm => 4
  | .vmem => 6
  | .smem => 0
  | _ => 0

abbrev bufTy : (tb : Table) → Fin (tcTables nBuf tb) → BufTy
  | .hbm, ⟨0, _⟩ => ⟨S256x256, .bf16⟩
  | .hbm, ⟨1, _⟩ => ⟨S256x512, .bf16⟩
  | .hbm, ⟨2, _⟩ => ⟨S512x256, .bf16⟩
  | .hbm, ⟨3, _⟩ => ⟨S256x256, .bf16⟩
  | .local _ .vmem, ⟨0, _⟩ => ⟨S256x256, .bf16⟩
  | .local _ .vmem, ⟨1, _⟩ => ⟨S256x512, .bf16⟩
  | .local _ .vmem, ⟨2, _⟩ => ⟨S512x256, .bf16⟩
  | .local _ .vmem, ⟨3, _⟩ => ⟨S256x256, .bf16⟩
  | .local _ .vmem, ⟨4, _⟩ => ⟨S8x32x256, .bf16⟩
  | .local _ .vmem, ⟨5, _⟩ => ⟨S8x5x32x256, .bf16⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  (ofTc nBuf bufTy 1 84 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_70 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v59 : BitVec 32 := Scalar.muli c8_i32_24 v19
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v62 : BitVec 32 := Scalar.addi v58 v46
  let c2_i32_26 : BitVec 32 := 2#32
  let c0_i32_27 : BitVec 32 := 0#32
  let v63 : BitVec 1 := Scalar.cmpi .eq c2_i32_26 c0_i32_27
  let c1_i32_28 : BitVec 32 := 1#32
  let v64 : BitVec 32 := Scalar.select v63 c1_i32_28 c2_i32_26
  let v65 : BitVec 32 := Scalar.remsi v62 v64
  let c0_i32_30 : BitVec 32 := 0#32
  let v67 : BitVec 1 := Scalar.cmpi .slt v65 c0_i32_30
  let c0_i32_31 : BitVec 32 := 0#32
  let v68 : BitVec 1 := Scalar.cmpi .slt v64 c0_i32_31
  let v69 : BitVec 1 := Scalar.xori v67 v68
  let c0_i32_29 : BitVec 32 := 0#32
  let v66 : BitVec 1 := Scalar.cmpi .ne v65 c0_i32_29
  let v70 : BitVec 1 := Scalar.andi v69 v66
  let v71 : BitVec 32 := Scalar.addi v65 v64
  let v72 : BitVec 32 := Scalar.select v70 v71 v65
  let v73 : BitVec 32 := Scalar.addi v61 v72
  let c1_i32_69 : BitVec 32 := 1#32
  let v139 : BitVec 32 := Scalar.muli v73 c1_i32_69
  let v140 : BitVec 32 := Scalar.addi c0_i32_70 v139
  v140.toNat
def k0_dev2 (d0 : Dev nD) : Nat :=
  let c0_i32_73 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v75 : BitVec 32 := Scalar.muli c8_i32_33 v19
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v78 : BitVec 32 := Scalar.addi v57 v74
  let c2_i32_35 : BitVec 32 := 2#32
  let c0_i32_36 : BitVec 32 := 0#32
  let v79 : BitVec 1 := Scalar.cmpi .eq c2_i32_35 c0_i32_36
  let c1_i32_37 : BitVec 32 := 1#32
  let v80 : BitVec 32 := Scalar.select v79 c1_i32_37 c2_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let v89 : BitVec 32 := Scalar.addi v77 v88
  let c1_i32_72 : BitVec 32 := 1#32
  let v141 : BitVec 32 := Scalar.muli v89 c1_i32_72
  let v142 : BitVec 32 := Scalar.addi c0_i32_73 v141
  v142.toNat
def k0_dev3 (d0 : Dev nD) : Nat :=
  let c0_i32_76 : BitVec 32 := 0#32
  let c8_i32_42 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_41 : BitVec 32 := 1#32
  let v90 : BitVec 32 := Scalar.xori v19 c1_i32_41
  let v91 : BitVec 32 := Scalar.muli c8_i32_42 v90
  let c2_i32_43 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v92 : BitVec 32 := Scalar.muli c2_i32_43 v46
  let v93 : BitVec 32 := Scalar.addi v91 v92
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v94 : BitVec 32 := Scalar.addi v57 v46
  let c2_i32_44 : BitVec 32 := 2#32
  let c0_i32_45 : BitVec 32 := 0#32
  let v95 : BitVec 1 := Scalar.cmpi .eq c2_i32_44 c0_i32_45
  let c1_i32_46 : BitVec 32 := 1#32
  let v96 : BitVec 32 := Scalar.select v95 c1_i32_46 c2_i32_44
  let v97 : BitVec 32 := Scalar.remsi v94 v96
  let c0_i32_48 : BitVec 32 := 0#32
  let v99 : BitVec 1 := Scalar.cmpi .slt v97 c0_i32_48
  let c0_i32_49 : BitVec 32 := 0#32
  let v100 : BitVec 1 := Scalar.cmpi .slt v96 c0_i32_49
  let v101 : BitVec 1 := Scalar.xori v99 v100
  let c0_i32_47 : BitVec 32 := 0#32
  let v98 : BitVec 1 := Scalar.cmpi .ne v97 c0_i32_47
  let v102 : BitVec 1 := Scalar.andi v101 v98
  let v103 : BitVec 32 := Scalar.addi v97 v96
  let v104 : BitVec 32 := Scalar.select v102 v103 v97
  let v105 : BitVec 32 := Scalar.addi v93 v104
  let c1_i32_75 : BitVec 32 := 1#32
  let v143 : BitVec 32 := Scalar.muli v105 c1_i32_75
  let v144 : BitVec 32 := Scalar.addi c0_i32_76 v143
  v144.toNat
def k0_dev4 (d0 : Dev nD) : Nat :=
  let c0_i32_79 : BitVec 32 := 0#32
  let c8_i32_51 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v107 : BitVec 32 := Scalar.muli c8_i32_51 v19
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_50 : BitVec 32 := 2#32
  let v106 : BitVec 32 := Scalar.xori v46 c2_i32_50
  let v108 : BitVec 32 := Scalar.muli c2_i32_52 v106
  let v109 : BitVec 32 := Scalar.addi v107 v108
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v110 : BitVec 32 := Scalar.addi v57 v106
  let c2_i32_53 : BitVec 32 := 2#32
  let c0_i32_54 : BitVec 32 := 0#32
  let v111 : BitVec 1 := Scalar.cmpi .eq c2_i32_53 c0_i32_54
  let c1_i32_55 : BitVec 32 := 1#32
  let v112 : BitVec 32 := Scalar.select v111 c1_i32_55 c2_i32_53
  let v113 : BitVec 32 := Scalar.remsi v110 v112
  let c0_i32_57 : BitVec 32 := 0#32
  let v115 : BitVec 1 := Scalar.cmpi .slt v113 c0_i32_57
  let c0_i32_58 : BitVec 32 := 0#32
  let v116 : BitVec 1 := Scalar.cmpi .slt v112 c0_i32_58
  let v117 : BitVec 1 := Scalar.xori v115 v116
  let c0_i32_56 : BitVec 32 := 0#32
  let v114 : BitVec 1 := Scalar.cmpi .ne v113 c0_i32_56
  let v118 : BitVec 1 := Scalar.andi v117 v114
  let v119 : BitVec 32 := Scalar.addi v113 v112
  let v120 : BitVec 32 := Scalar.select v118 v119 v113
  let v121 : BitVec 32 := Scalar.addi v109 v120
  let c1_i32_78 : BitVec 32 := 1#32
  let v145 : BitVec 32 := Scalar.muli v121 c1_i32_78
  let v146 : BitVec 32 := Scalar.addi c0_i32_79 v145
  v146.toNat
def k0_dev5 (d0 : Dev nD) : Nat :=
  let c0_i32_82 : BitVec 32 := 0#32
  let c8_i32_60 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_59 : BitVec 32 := 2#32
  let v122 : BitVec 32 := Scalar.xori v19 c2_i32_59
  let v123 : BitVec 32 := Scalar.muli c8_i32_60 v122
  let c2_i32_61 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v124 : BitVec 32 := Scalar.muli c2_i32_61 v46
  let v125 : BitVec 32 := Scalar.addi v123 v124
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v126 : BitVec 32 := Scalar.addi v57 v46
  let c2_i32_62 : BitVec 32 := 2#32
  let c0_i32_63 : BitVec 32 := 0#32
  let v127 : BitVec 1 := Scalar.cmpi .eq c2_i32_62 c0_i32_63
  let c1_i32_64 : BitVec 32 := 1#32
  let v128 : BitVec 32 := Scalar.select v127 c1_i32_64 c2_i32_62
  let v129 : BitVec 32 := Scalar.remsi v126 v128
  let c0_i32_66 : BitVec 32 := 0#32
  let v131 : BitVec 1 := Scalar.cmpi .slt v129 c0_i32_66
  let c0_i32_67 : BitVec 32 := 0#32
  let v132 : BitVec 1 := Scalar.cmpi .slt v128 c0_i32_67
  let v133 : BitVec 1 := Scalar.xori v131 v132
  let c0_i32_65 : BitVec 32 := 0#32
  let v130 : BitVec 1 := Scalar.cmpi .ne v129 c0_i32_65
  let v134 : BitVec 1 := Scalar.andi v133 v130
  let v135 : BitVec 32 := Scalar.addi v129 v128
  let v136 : BitVec 32 := Scalar.select v134 v135 v129
  let v137 : BitVec 32 := Scalar.addi v125 v136
  let c1_i32_81 : BitVec 32 := 1#32
  let v147 : BitVec 32 := Scalar.muli v137 c1_i32_81
  let v148 : BitVec 32 := Scalar.addi c0_i32_82 v147
  v148.toNat
def k0_dev6 (d0 : Dev nD) : Nat :=
  let c0_i32_101 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v59 : BitVec 32 := Scalar.muli c8_i32_24 v19
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v62 : BitVec 32 := Scalar.addi v58 v46
  let c2_i32_26 : BitVec 32 := 2#32
  let c0_i32_27 : BitVec 32 := 0#32
  let v63 : BitVec 1 := Scalar.cmpi .eq c2_i32_26 c0_i32_27
  let c1_i32_28 : BitVec 32 := 1#32
  let v64 : BitVec 32 := Scalar.select v63 c1_i32_28 c2_i32_26
  let v65 : BitVec 32 := Scalar.remsi v62 v64
  let c0_i32_30 : BitVec 32 := 0#32
  let v67 : BitVec 1 := Scalar.cmpi .slt v65 c0_i32_30
  let c0_i32_31 : BitVec 32 := 0#32
  let v68 : BitVec 1 := Scalar.cmpi .slt v64 c0_i32_31
  let v69 : BitVec 1 := Scalar.xori v67 v68
  let c0_i32_29 : BitVec 32 := 0#32
  let v66 : BitVec 1 := Scalar.cmpi .ne v65 c0_i32_29
  let v70 : BitVec 1 := Scalar.andi v69 v66
  let v71 : BitVec 32 := Scalar.addi v65 v64
  let v72 : BitVec 32 := Scalar.select v70 v71 v65
  let v73 : BitVec 32 := Scalar.addi v61 v72
  let c1_i32_100 : BitVec 32 := 1#32
  let v165 : BitVec 32 := Scalar.muli v73 c1_i32_100
  let v166 : BitVec 32 := Scalar.addi c0_i32_101 v165
  v166.toNat
def k0_dev7 (d0 : Dev nD) : Nat :=
  let c0_i32_119 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v75 : BitVec 32 := Scalar.muli c8_i32_33 v19
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v78 : BitVec 32 := Scalar.addi v57 v74
  let c2_i32_35 : BitVec 32 := 2#32
  let c0_i32_36 : BitVec 32 := 0#32
  let v79 : BitVec 1 := Scalar.cmpi .eq c2_i32_35 c0_i32_36
  let c1_i32_37 : BitVec 32 := 1#32
  let v80 : BitVec 32 := Scalar.select v79 c1_i32_37 c2_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let v89 : BitVec 32 := Scalar.addi v77 v88
  let c1_i32_118 : BitVec 32 := 1#32
  let v185 : BitVec 32 := Scalar.muli v89 c1_i32_118
  let v186 : BitVec 32 := Scalar.addi c0_i32_119 v185
  v186.toNat
def k0_dev8 (d0 : Dev nD) : Nat :=
  let c0_i32_137 : BitVec 32 := 0#32
  let c8_i32_42 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_41 : BitVec 32 := 1#32
  let v90 : BitVec 32 := Scalar.xori v19 c1_i32_41
  let v91 : BitVec 32 := Scalar.muli c8_i32_42 v90
  let c2_i32_43 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v92 : BitVec 32 := Scalar.muli c2_i32_43 v46
  let v93 : BitVec 32 := Scalar.addi v91 v92
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v94 : BitVec 32 := Scalar.addi v57 v46
  let c2_i32_44 : BitVec 32 := 2#32
  let c0_i32_45 : BitVec 32 := 0#32
  let v95 : BitVec 1 := Scalar.cmpi .eq c2_i32_44 c0_i32_45
  let c1_i32_46 : BitVec 32 := 1#32
  let v96 : BitVec 32 := Scalar.select v95 c1_i32_46 c2_i32_44
  let v97 : BitVec 32 := Scalar.remsi v94 v96
  let c0_i32_48 : BitVec 32 := 0#32
  let v99 : BitVec 1 := Scalar.cmpi .slt v97 c0_i32_48
  let c0_i32_49 : BitVec 32 := 0#32
  let v100 : BitVec 1 := Scalar.cmpi .slt v96 c0_i32_49
  let v101 : BitVec 1 := Scalar.xori v99 v100
  let c0_i32_47 : BitVec 32 := 0#32
  let v98 : BitVec 1 := Scalar.cmpi .ne v97 c0_i32_47
  let v102 : BitVec 1 := Scalar.andi v101 v98
  let v103 : BitVec 32 := Scalar.addi v97 v96
  let v104 : BitVec 32 := Scalar.select v102 v103 v97
  let v105 : BitVec 32 := Scalar.addi v93 v104
  let c1_i32_136 : BitVec 32 := 1#32
  let v205 : BitVec 32 := Scalar.muli v105 c1_i32_136
  let v206 : BitVec 32 := Scalar.addi c0_i32_137 v205
  v206.toNat
def k0_dev9 (d0 : Dev nD) : Nat :=
  let c0_i32_154 : BitVec 32 := 0#32
  let c8_i32_51 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v107 : BitVec 32 := Scalar.muli c8_i32_51 v19
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_50 : BitVec 32 := 2#32
  let v106 : BitVec 32 := Scalar.xori v46 c2_i32_50
  let v108 : BitVec 32 := Scalar.muli c2_i32_52 v106
  let v109 : BitVec 32 := Scalar.addi v107 v108
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v110 : BitVec 32 := Scalar.addi v57 v106
  let c2_i32_53 : BitVec 32 := 2#32
  let c0_i32_54 : BitVec 32 := 0#32
  let v111 : BitVec 1 := Scalar.cmpi .eq c2_i32_53 c0_i32_54
  let c1_i32_55 : BitVec 32 := 1#32
  let v112 : BitVec 32 := Scalar.select v111 c1_i32_55 c2_i32_53
  let v113 : BitVec 32 := Scalar.remsi v110 v112
  let c0_i32_57 : BitVec 32 := 0#32
  let v115 : BitVec 1 := Scalar.cmpi .slt v113 c0_i32_57
  let c0_i32_58 : BitVec 32 := 0#32
  let v116 : BitVec 1 := Scalar.cmpi .slt v112 c0_i32_58
  let v117 : BitVec 1 := Scalar.xori v115 v116
  let c0_i32_56 : BitVec 32 := 0#32
  let v114 : BitVec 1 := Scalar.cmpi .ne v113 c0_i32_56
  let v118 : BitVec 1 := Scalar.andi v117 v114
  let v119 : BitVec 32 := Scalar.addi v113 v112
  let v120 : BitVec 32 := Scalar.select v118 v119 v113
  let v121 : BitVec 32 := Scalar.addi v109 v120
  let c1_i32_153 : BitVec 32 := 1#32
  let v225 : BitVec 32 := Scalar.muli v121 c1_i32_153
  let v226 : BitVec 32 := Scalar.addi c0_i32_154 v225
  v226.toNat
def k0_dev10 (d0 : Dev nD) : Nat :=
  let c0_i32_171 : BitVec 32 := 0#32
  let c8_i32_60 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_59 : BitVec 32 := 2#32
  let v122 : BitVec 32 := Scalar.xori v19 c2_i32_59
  let v123 : BitVec 32 := Scalar.muli c8_i32_60 v122
  let c2_i32_61 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v124 : BitVec 32 := Scalar.muli c2_i32_61 v46
  let v125 : BitVec 32 := Scalar.addi v123 v124
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v126 : BitVec 32 := Scalar.addi v57 v46
  let c2_i32_62 : BitVec 32 := 2#32
  let c0_i32_63 : BitVec 32 := 0#32
  let v127 : BitVec 1 := Scalar.cmpi .eq c2_i32_62 c0_i32_63
  let c1_i32_64 : BitVec 32 := 1#32
  let v128 : BitVec 32 := Scalar.select v127 c1_i32_64 c2_i32_62
  let v129 : BitVec 32 := Scalar.remsi v126 v128
  let c0_i32_66 : BitVec 32 := 0#32
  let v131 : BitVec 1 := Scalar.cmpi .slt v129 c0_i32_66
  let c0_i32_67 : BitVec 32 := 0#32
  let v132 : BitVec 1 := Scalar.cmpi .slt v128 c0_i32_67
  let v133 : BitVec 1 := Scalar.xori v131 v132
  let c0_i32_65 : BitVec 32 := 0#32
  let v130 : BitVec 1 := Scalar.cmpi .ne v129 c0_i32_65
  let v134 : BitVec 1 := Scalar.andi v133 v130
  let v135 : BitVec 32 := Scalar.addi v129 v128
  let v136 : BitVec 32 := Scalar.select v134 v135 v129
  let v137 : BitVec 32 := Scalar.addi v125 v136
  let c1_i32_170 : BitVec 32 := 1#32
  let v245 : BitVec 32 := Scalar.muli v137 c1_i32_170
  let v246 : BitVec 32 := Scalar.addi c0_i32_171 v245
  v246.toNat
def k0_dev11 (d0 : Dev nD) : Nat :=
  let c0_i32_189 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v59 : BitVec 32 := Scalar.muli c8_i32_24 v19
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v62 : BitVec 32 := Scalar.addi v58 v46
  let c2_i32_26 : BitVec 32 := 2#32
  let c0_i32_27 : BitVec 32 := 0#32
  let v63 : BitVec 1 := Scalar.cmpi .eq c2_i32_26 c0_i32_27
  let c1_i32_28 : BitVec 32 := 1#32
  let v64 : BitVec 32 := Scalar.select v63 c1_i32_28 c2_i32_26
  let v65 : BitVec 32 := Scalar.remsi v62 v64
  let c0_i32_30 : BitVec 32 := 0#32
  let v67 : BitVec 1 := Scalar.cmpi .slt v65 c0_i32_30
  let c0_i32_31 : BitVec 32 := 0#32
  let v68 : BitVec 1 := Scalar.cmpi .slt v64 c0_i32_31
  let v69 : BitVec 1 := Scalar.xori v67 v68
  let c0_i32_29 : BitVec 32 := 0#32
  let v66 : BitVec 1 := Scalar.cmpi .ne v65 c0_i32_29
  let v70 : BitVec 1 := Scalar.andi v69 v66
  let v71 : BitVec 32 := Scalar.addi v65 v64
  let v72 : BitVec 32 := Scalar.select v70 v71 v65
  let v73 : BitVec 32 := Scalar.addi v61 v72
  let c1_i32_188 : BitVec 32 := 1#32
  let v265 : BitVec 32 := Scalar.muli v73 c1_i32_188
  let v266 : BitVec 32 := Scalar.addi c0_i32_189 v265
  v266.toNat
def k0_dev12 (d0 : Dev nD) : Nat :=
  let c0_i32_206 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v75 : BitVec 32 := Scalar.muli c8_i32_33 v19
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v78 : BitVec 32 := Scalar.addi v57 v74
  let c2_i32_35 : BitVec 32 := 2#32
  let c0_i32_36 : BitVec 32 := 0#32
  let v79 : BitVec 1 := Scalar.cmpi .eq c2_i32_35 c0_i32_36
  let c1_i32_37 : BitVec 32 := 1#32
  let v80 : BitVec 32 := Scalar.select v79 c1_i32_37 c2_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let v89 : BitVec 32 := Scalar.addi v77 v88
  let c1_i32_205 : BitVec 32 := 1#32
  let v285 : BitVec 32 := Scalar.muli v89 c1_i32_205
  let v286 : BitVec 32 := Scalar.addi c0_i32_206 v285
  v286.toNat
def k0_dev13 (d0 : Dev nD) : Nat :=
  let c0_i32_223 : BitVec 32 := 0#32
  let c8_i32_42 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_41 : BitVec 32 := 1#32
  let v90 : BitVec 32 := Scalar.xori v19 c1_i32_41
  let v91 : BitVec 32 := Scalar.muli c8_i32_42 v90
  let c2_i32_43 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v92 : BitVec 32 := Scalar.muli c2_i32_43 v46
  let v93 : BitVec 32 := Scalar.addi v91 v92
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v94 : BitVec 32 := Scalar.addi v57 v46
  let c2_i32_44 : BitVec 32 := 2#32
  let c0_i32_45 : BitVec 32 := 0#32
  let v95 : BitVec 1 := Scalar.cmpi .eq c2_i32_44 c0_i32_45
  let c1_i32_46 : BitVec 32 := 1#32
  let v96 : BitVec 32 := Scalar.select v95 c1_i32_46 c2_i32_44
  let v97 : BitVec 32 := Scalar.remsi v94 v96
  let c0_i32_48 : BitVec 32 := 0#32
  let v99 : BitVec 1 := Scalar.cmpi .slt v97 c0_i32_48
  let c0_i32_49 : BitVec 32 := 0#32
  let v100 : BitVec 1 := Scalar.cmpi .slt v96 c0_i32_49
  let v101 : BitVec 1 := Scalar.xori v99 v100
  let c0_i32_47 : BitVec 32 := 0#32
  let v98 : BitVec 1 := Scalar.cmpi .ne v97 c0_i32_47
  let v102 : BitVec 1 := Scalar.andi v101 v98
  let v103 : BitVec 32 := Scalar.addi v97 v96
  let v104 : BitVec 32 := Scalar.select v102 v103 v97
  let v105 : BitVec 32 := Scalar.addi v93 v104
  let c1_i32_222 : BitVec 32 := 1#32
  let v305 : BitVec 32 := Scalar.muli v105 c1_i32_222
  let v306 : BitVec 32 := Scalar.addi c0_i32_223 v305
  v306.toNat
def k0_dev14 (d0 : Dev nD) : Nat :=
  let c0_i32_271 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v75 : BitVec 32 := Scalar.muli c8_i32_33 v19
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v78 : BitVec 32 := Scalar.addi v57 v74
  let c2_i32_35 : BitVec 32 := 2#32
  let c0_i32_36 : BitVec 32 := 0#32
  let v79 : BitVec 1 := Scalar.cmpi .eq c2_i32_35 c0_i32_36
  let c1_i32_37 : BitVec 32 := 1#32
  let v80 : BitVec 32 := Scalar.select v79 c1_i32_37 c2_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let v89 : BitVec 32 := Scalar.addi v77 v88
  let c1_i32_270 : BitVec 32 := 1#32
  let v337 : BitVec 32 := Scalar.muli v89 c1_i32_270
  let v338 : BitVec 32 := Scalar.addi c0_i32_271 v337
  v338.toNat
def k0_dev15 (d0 : Dev nD) : Nat :=
  let c0_i32_319 : BitVec 32 := 0#32
  let c8_i32_42 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_41 : BitVec 32 := 1#32
  let v90 : BitVec 32 := Scalar.xori v19 c1_i32_41
  let v91 : BitVec 32 := Scalar.muli c8_i32_42 v90
  let c2_i32_43 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v92 : BitVec 32 := Scalar.muli c2_i32_43 v46
  let v93 : BitVec 32 := Scalar.addi v91 v92
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v94 : BitVec 32 := Scalar.addi v57 v46
  let c2_i32_44 : BitVec 32 := 2#32
  let c0_i32_45 : BitVec 32 := 0#32
  let v95 : BitVec 1 := Scalar.cmpi .eq c2_i32_44 c0_i32_45
  let c1_i32_46 : BitVec 32 := 1#32
  let v96 : BitVec 32 := Scalar.select v95 c1_i32_46 c2_i32_44
  let v97 : BitVec 32 := Scalar.remsi v94 v96
  let c0_i32_48 : BitVec 32 := 0#32
  let v99 : BitVec 1 := Scalar.cmpi .slt v97 c0_i32_48
  let c0_i32_49 : BitVec 32 := 0#32
  let v100 : BitVec 1 := Scalar.cmpi .slt v96 c0_i32_49
  let v101 : BitVec 1 := Scalar.xori v99 v100
  let c0_i32_47 : BitVec 32 := 0#32
  let v98 : BitVec 1 := Scalar.cmpi .ne v97 c0_i32_47
  let v102 : BitVec 1 := Scalar.andi v101 v98
  let v103 : BitVec 32 := Scalar.addi v97 v96
  let v104 : BitVec 32 := Scalar.select v102 v103 v97
  let v105 : BitVec 32 := Scalar.addi v93 v104
  let c1_i32_318 : BitVec 32 := 1#32
  let v369 : BitVec 32 := Scalar.muli v105 c1_i32_318
  let v370 : BitVec 32 := Scalar.addi c0_i32_319 v369
  v370.toNat
def k0_dev16 (d0 : Dev nD) : Nat :=
  let c0_i32_367 : BitVec 32 := 0#32
  let c8_i32_51 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v107 : BitVec 32 := Scalar.muli c8_i32_51 v19
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_50 : BitVec 32 := 2#32
  let v106 : BitVec 32 := Scalar.xori v46 c2_i32_50
  let v108 : BitVec 32 := Scalar.muli c2_i32_52 v106
  let v109 : BitVec 32 := Scalar.addi v107 v108
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v110 : BitVec 32 := Scalar.addi v57 v106
  let c2_i32_53 : BitVec 32 := 2#32
  let c0_i32_54 : BitVec 32 := 0#32
  let v111 : BitVec 1 := Scalar.cmpi .eq c2_i32_53 c0_i32_54
  let c1_i32_55 : BitVec 32 := 1#32
  let v112 : BitVec 32 := Scalar.select v111 c1_i32_55 c2_i32_53
  let v113 : BitVec 32 := Scalar.remsi v110 v112
  let c0_i32_57 : BitVec 32 := 0#32
  let v115 : BitVec 1 := Scalar.cmpi .slt v113 c0_i32_57
  let c0_i32_58 : BitVec 32 := 0#32
  let v116 : BitVec 1 := Scalar.cmpi .slt v112 c0_i32_58
  let v117 : BitVec 1 := Scalar.xori v115 v116
  let c0_i32_56 : BitVec 32 := 0#32
  let v114 : BitVec 1 := Scalar.cmpi .ne v113 c0_i32_56
  let v118 : BitVec 1 := Scalar.andi v117 v114
  let v119 : BitVec 32 := Scalar.addi v113 v112
  let v120 : BitVec 32 := Scalar.select v118 v119 v113
  let v121 : BitVec 32 := Scalar.addi v109 v120
  let c1_i32_366 : BitVec 32 := 1#32
  let v401 : BitVec 32 := Scalar.muli v121 c1_i32_366
  let v402 : BitVec 32 := Scalar.addi c0_i32_367 v401
  v402.toNat
def k0_dev17 (d0 : Dev nD) : Nat :=
  let c0_i32_415 : BitVec 32 := 0#32
  let c8_i32_60 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_59 : BitVec 32 := 2#32
  let v122 : BitVec 32 := Scalar.xori v19 c2_i32_59
  let v123 : BitVec 32 := Scalar.muli c8_i32_60 v122
  let c2_i32_61 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v124 : BitVec 32 := Scalar.muli c2_i32_61 v46
  let v125 : BitVec 32 := Scalar.addi v123 v124
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v126 : BitVec 32 := Scalar.addi v57 v46
  let c2_i32_62 : BitVec 32 := 2#32
  let c0_i32_63 : BitVec 32 := 0#32
  let v127 : BitVec 1 := Scalar.cmpi .eq c2_i32_62 c0_i32_63
  let c1_i32_64 : BitVec 32 := 1#32
  let v128 : BitVec 32 := Scalar.select v127 c1_i32_64 c2_i32_62
  let v129 : BitVec 32 := Scalar.remsi v126 v128
  let c0_i32_66 : BitVec 32 := 0#32
  let v131 : BitVec 1 := Scalar.cmpi .slt v129 c0_i32_66
  let c0_i32_67 : BitVec 32 := 0#32
  let v132 : BitVec 1 := Scalar.cmpi .slt v128 c0_i32_67
  let v133 : BitVec 1 := Scalar.xori v131 v132
  let c0_i32_65 : BitVec 32 := 0#32
  let v130 : BitVec 1 := Scalar.cmpi .ne v129 c0_i32_65
  let v134 : BitVec 1 := Scalar.andi v133 v130
  let v135 : BitVec 32 := Scalar.addi v129 v128
  let v136 : BitVec 32 := Scalar.select v134 v135 v129
  let v137 : BitVec 32 := Scalar.addi v125 v136
  let c1_i32_414 : BitVec 32 := 1#32
  let v433 : BitVec 32 := Scalar.muli v137 c1_i32_414
  let v434 : BitVec 32 := Scalar.addi c0_i32_415 v433
  v434.toNat
def k0_dev18 (d0 : Dev nD) : Nat :=
  let c0_i32_463 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v59 : BitVec 32 := Scalar.muli c8_i32_24 v19
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v62 : BitVec 32 := Scalar.addi v58 v46
  let c2_i32_26 : BitVec 32 := 2#32
  let c0_i32_27 : BitVec 32 := 0#32
  let v63 : BitVec 1 := Scalar.cmpi .eq c2_i32_26 c0_i32_27
  let c1_i32_28 : BitVec 32 := 1#32
  let v64 : BitVec 32 := Scalar.select v63 c1_i32_28 c2_i32_26
  let v65 : BitVec 32 := Scalar.remsi v62 v64
  let c0_i32_30 : BitVec 32 := 0#32
  let v67 : BitVec 1 := Scalar.cmpi .slt v65 c0_i32_30
  let c0_i32_31 : BitVec 32 := 0#32
  let v68 : BitVec 1 := Scalar.cmpi .slt v64 c0_i32_31
  let v69 : BitVec 1 := Scalar.xori v67 v68
  let c0_i32_29 : BitVec 32 := 0#32
  let v66 : BitVec 1 := Scalar.cmpi .ne v65 c0_i32_29
  let v70 : BitVec 1 := Scalar.andi v69 v66
  let v71 : BitVec 32 := Scalar.addi v65 v64
  let v72 : BitVec 32 := Scalar.select v70 v71 v65
  let v73 : BitVec 32 := Scalar.addi v61 v72
  let c1_i32_462 : BitVec 32 := 1#32
  let v465 : BitVec 32 := Scalar.muli v73 c1_i32_462
  let v466 : BitVec 32 := Scalar.addi c0_i32_463 v465
  v466.toNat
def k0_dev19 (d0 : Dev nD) : Nat :=
  let c0_i32_511 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v75 : BitVec 32 := Scalar.muli c8_i32_33 v19
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v78 : BitVec 32 := Scalar.addi v57 v74
  let c2_i32_35 : BitVec 32 := 2#32
  let c0_i32_36 : BitVec 32 := 0#32
  let v79 : BitVec 1 := Scalar.cmpi .eq c2_i32_35 c0_i32_36
  let c1_i32_37 : BitVec 32 := 1#32
  let v80 : BitVec 32 := Scalar.select v79 c1_i32_37 c2_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let v89 : BitVec 32 := Scalar.addi v77 v88
  let c1_i32_510 : BitVec 32 := 1#32
  let v497 : BitVec 32 := Scalar.muli v89 c1_i32_510
  let v498 : BitVec 32 := Scalar.addi c0_i32_511 v497
  v498.toNat
def k0_dev20 (d0 : Dev nD) : Nat :=
  let c0_i32_559 : BitVec 32 := 0#32
  let c8_i32_42 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_41 : BitVec 32 := 1#32
  let v90 : BitVec 32 := Scalar.xori v19 c1_i32_41
  let v91 : BitVec 32 := Scalar.muli c8_i32_42 v90
  let c2_i32_43 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v92 : BitVec 32 := Scalar.muli c2_i32_43 v46
  let v93 : BitVec 32 := Scalar.addi v91 v92
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v94 : BitVec 32 := Scalar.addi v57 v46
  let c2_i32_44 : BitVec 32 := 2#32
  let c0_i32_45 : BitVec 32 := 0#32
  let v95 : BitVec 1 := Scalar.cmpi .eq c2_i32_44 c0_i32_45
  let c1_i32_46 : BitVec 32 := 1#32
  let v96 : BitVec 32 := Scalar.select v95 c1_i32_46 c2_i32_44
  let v97 : BitVec 32 := Scalar.remsi v94 v96
  let c0_i32_48 : BitVec 32 := 0#32
  let v99 : BitVec 1 := Scalar.cmpi .slt v97 c0_i32_48
  let c0_i32_49 : BitVec 32 := 0#32
  let v100 : BitVec 1 := Scalar.cmpi .slt v96 c0_i32_49
  let v101 : BitVec 1 := Scalar.xori v99 v100
  let c0_i32_47 : BitVec 32 := 0#32
  let v98 : BitVec 1 := Scalar.cmpi .ne v97 c0_i32_47
  let v102 : BitVec 1 := Scalar.andi v101 v98
  let v103 : BitVec 32 := Scalar.addi v97 v96
  let v104 : BitVec 32 := Scalar.select v102 v103 v97
  let v105 : BitVec 32 := Scalar.addi v93 v104
  let c1_i32_558 : BitVec 32 := 1#32
  let v529 : BitVec 32 := Scalar.muli v105 c1_i32_558
  let v530 : BitVec 32 := Scalar.addi c0_i32_559 v529
  v530.toNat
def k0_dev21 (d0 : Dev nD) : Nat :=
  let c0_i32_607 : BitVec 32 := 0#32
  let c8_i32_51 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v107 : BitVec 32 := Scalar.muli c8_i32_51 v19
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_50 : BitVec 32 := 2#32
  let v106 : BitVec 32 := Scalar.xori v46 c2_i32_50
  let v108 : BitVec 32 := Scalar.muli c2_i32_52 v106
  let v109 : BitVec 32 := Scalar.addi v107 v108
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v110 : BitVec 32 := Scalar.addi v57 v106
  let c2_i32_53 : BitVec 32 := 2#32
  let c0_i32_54 : BitVec 32 := 0#32
  let v111 : BitVec 1 := Scalar.cmpi .eq c2_i32_53 c0_i32_54
  let c1_i32_55 : BitVec 32 := 1#32
  let v112 : BitVec 32 := Scalar.select v111 c1_i32_55 c2_i32_53
  let v113 : BitVec 32 := Scalar.remsi v110 v112
  let c0_i32_57 : BitVec 32 := 0#32
  let v115 : BitVec 1 := Scalar.cmpi .slt v113 c0_i32_57
  let c0_i32_58 : BitVec 32 := 0#32
  let v116 : BitVec 1 := Scalar.cmpi .slt v112 c0_i32_58
  let v117 : BitVec 1 := Scalar.xori v115 v116
  let c0_i32_56 : BitVec 32 := 0#32
  let v114 : BitVec 1 := Scalar.cmpi .ne v113 c0_i32_56
  let v118 : BitVec 1 := Scalar.andi v117 v114
  let v119 : BitVec 32 := Scalar.addi v113 v112
  let v120 : BitVec 32 := Scalar.select v118 v119 v113
  let v121 : BitVec 32 := Scalar.addi v109 v120
  let c1_i32_606 : BitVec 32 := 1#32
  let v561 : BitVec 32 := Scalar.muli v121 c1_i32_606
  let v562 : BitVec 32 := Scalar.addi c0_i32_607 v561
  v562.toNat
def k0_dev22 (d0 : Dev nD) : Nat :=
  let c0_i32_655 : BitVec 32 := 0#32
  let c8_i32_42 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_41 : BitVec 32 := 1#32
  let v90 : BitVec 32 := Scalar.xori v19 c1_i32_41
  let v91 : BitVec 32 := Scalar.muli c8_i32_42 v90
  let c2_i32_43 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v92 : BitVec 32 := Scalar.muli c2_i32_43 v46
  let v93 : BitVec 32 := Scalar.addi v91 v92
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v94 : BitVec 32 := Scalar.addi v57 v46
  let c2_i32_44 : BitVec 32 := 2#32
  let c0_i32_45 : BitVec 32 := 0#32
  let v95 : BitVec 1 := Scalar.cmpi .eq c2_i32_44 c0_i32_45
  let c1_i32_46 : BitVec 32 := 1#32
  let v96 : BitVec 32 := Scalar.select v95 c1_i32_46 c2_i32_44
  let v97 : BitVec 32 := Scalar.remsi v94 v96
  let c0_i32_48 : BitVec 32 := 0#32
  let v99 : BitVec 1 := Scalar.cmpi .slt v97 c0_i32_48
  let c0_i32_49 : BitVec 32 := 0#32
  let v100 : BitVec 1 := Scalar.cmpi .slt v96 c0_i32_49
  let v101 : BitVec 1 := Scalar.xori v99 v100
  let c0_i32_47 : BitVec 32 := 0#32
  let v98 : BitVec 1 := Scalar.cmpi .ne v97 c0_i32_47
  let v102 : BitVec 1 := Scalar.andi v101 v98
  let v103 : BitVec 32 := Scalar.addi v97 v96
  let v104 : BitVec 32 := Scalar.select v102 v103 v97
  let v105 : BitVec 32 := Scalar.addi v93 v104
  let c1_i32_654 : BitVec 32 := 1#32
  let v593 : BitVec 32 := Scalar.muli v105 c1_i32_654
  let v594 : BitVec 32 := Scalar.addi c0_i32_655 v593
  v594.toNat
def k0_dev23 (d0 : Dev nD) : Nat :=
  let c0_i32_703 : BitVec 32 := 0#32
  let c8_i32_51 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v107 : BitVec 32 := Scalar.muli c8_i32_51 v19
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_50 : BitVec 32 := 2#32
  let v106 : BitVec 32 := Scalar.xori v46 c2_i32_50
  let v108 : BitVec 32 := Scalar.muli c2_i32_52 v106
  let v109 : BitVec 32 := Scalar.addi v107 v108
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v110 : BitVec 32 := Scalar.addi v57 v106
  let c2_i32_53 : BitVec 32 := 2#32
  let c0_i32_54 : BitVec 32 := 0#32
  let v111 : BitVec 1 := Scalar.cmpi .eq c2_i32_53 c0_i32_54
  let c1_i32_55 : BitVec 32 := 1#32
  let v112 : BitVec 32 := Scalar.select v111 c1_i32_55 c2_i32_53
  let v113 : BitVec 32 := Scalar.remsi v110 v112
  let c0_i32_57 : BitVec 32 := 0#32
  let v115 : BitVec 1 := Scalar.cmpi .slt v113 c0_i32_57
  let c0_i32_58 : BitVec 32 := 0#32
  let v116 : BitVec 1 := Scalar.cmpi .slt v112 c0_i32_58
  let v117 : BitVec 1 := Scalar.xori v115 v116
  let c0_i32_56 : BitVec 32 := 0#32
  let v114 : BitVec 1 := Scalar.cmpi .ne v113 c0_i32_56
  let v118 : BitVec 1 := Scalar.andi v117 v114
  let v119 : BitVec 32 := Scalar.addi v113 v112
  let v120 : BitVec 32 := Scalar.select v118 v119 v113
  let v121 : BitVec 32 := Scalar.addi v109 v120
  let c1_i32_702 : BitVec 32 := 1#32
  let v625 : BitVec 32 := Scalar.muli v121 c1_i32_702
  let v626 : BitVec 32 := Scalar.addi c0_i32_703 v625
  v626.toNat
def k0_dev24 (d0 : Dev nD) : Nat :=
  let c0_i32_751 : BitVec 32 := 0#32
  let c8_i32_60 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_59 : BitVec 32 := 2#32
  let v122 : BitVec 32 := Scalar.xori v19 c2_i32_59
  let v123 : BitVec 32 := Scalar.muli c8_i32_60 v122
  let c2_i32_61 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v124 : BitVec 32 := Scalar.muli c2_i32_61 v46
  let v125 : BitVec 32 := Scalar.addi v123 v124
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v126 : BitVec 32 := Scalar.addi v57 v46
  let c2_i32_62 : BitVec 32 := 2#32
  let c0_i32_63 : BitVec 32 := 0#32
  let v127 : BitVec 1 := Scalar.cmpi .eq c2_i32_62 c0_i32_63
  let c1_i32_64 : BitVec 32 := 1#32
  let v128 : BitVec 32 := Scalar.select v127 c1_i32_64 c2_i32_62
  let v129 : BitVec 32 := Scalar.remsi v126 v128
  let c0_i32_66 : BitVec 32 := 0#32
  let v131 : BitVec 1 := Scalar.cmpi .slt v129 c0_i32_66
  let c0_i32_67 : BitVec 32 := 0#32
  let v132 : BitVec 1 := Scalar.cmpi .slt v128 c0_i32_67
  let v133 : BitVec 1 := Scalar.xori v131 v132
  let c0_i32_65 : BitVec 32 := 0#32
  let v130 : BitVec 1 := Scalar.cmpi .ne v129 c0_i32_65
  let v134 : BitVec 1 := Scalar.andi v133 v130
  let v135 : BitVec 32 := Scalar.addi v129 v128
  let v136 : BitVec 32 := Scalar.select v134 v135 v129
  let v137 : BitVec 32 := Scalar.addi v125 v136
  let c1_i32_750 : BitVec 32 := 1#32
  let v657 : BitVec 32 := Scalar.muli v137 c1_i32_750
  let v658 : BitVec 32 := Scalar.addi c0_i32_751 v657
  v658.toNat
def k0_dev25 (d0 : Dev nD) : Nat :=
  let c0_i32_799 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v59 : BitVec 32 := Scalar.muli c8_i32_24 v19
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v62 : BitVec 32 := Scalar.addi v58 v46
  let c2_i32_26 : BitVec 32 := 2#32
  let c0_i32_27 : BitVec 32 := 0#32
  let v63 : BitVec 1 := Scalar.cmpi .eq c2_i32_26 c0_i32_27
  let c1_i32_28 : BitVec 32 := 1#32
  let v64 : BitVec 32 := Scalar.select v63 c1_i32_28 c2_i32_26
  let v65 : BitVec 32 := Scalar.remsi v62 v64
  let c0_i32_30 : BitVec 32 := 0#32
  let v67 : BitVec 1 := Scalar.cmpi .slt v65 c0_i32_30
  let c0_i32_31 : BitVec 32 := 0#32
  let v68 : BitVec 1 := Scalar.cmpi .slt v64 c0_i32_31
  let v69 : BitVec 1 := Scalar.xori v67 v68
  let c0_i32_29 : BitVec 32 := 0#32
  let v66 : BitVec 1 := Scalar.cmpi .ne v65 c0_i32_29
  let v70 : BitVec 1 := Scalar.andi v69 v66
  let v71 : BitVec 32 := Scalar.addi v65 v64
  let v72 : BitVec 32 := Scalar.select v70 v71 v65
  let v73 : BitVec 32 := Scalar.addi v61 v72
  let c1_i32_798 : BitVec 32 := 1#32
  let v689 : BitVec 32 := Scalar.muli v73 c1_i32_798
  let v690 : BitVec 32 := Scalar.addi c0_i32_799 v689
  v690.toNat
def k0_dev26 (d0 : Dev nD) : Nat :=
  let c0_i32_847 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v75 : BitVec 32 := Scalar.muli c8_i32_33 v19
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v78 : BitVec 32 := Scalar.addi v57 v74
  let c2_i32_35 : BitVec 32 := 2#32
  let c0_i32_36 : BitVec 32 := 0#32
  let v79 : BitVec 1 := Scalar.cmpi .eq c2_i32_35 c0_i32_36
  let c1_i32_37 : BitVec 32 := 1#32
  let v80 : BitVec 32 := Scalar.select v79 c1_i32_37 c2_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let v89 : BitVec 32 := Scalar.addi v77 v88
  let c1_i32_846 : BitVec 32 := 1#32
  let v721 : BitVec 32 := Scalar.muli v89 c1_i32_846
  let v722 : BitVec 32 := Scalar.addi c0_i32_847 v721
  v722.toNat
def k0_dev27 (d0 : Dev nD) : Nat :=
  let c0_i32_895 : BitVec 32 := 0#32
  let c8_i32_42 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_41 : BitVec 32 := 1#32
  let v90 : BitVec 32 := Scalar.xori v19 c1_i32_41
  let v91 : BitVec 32 := Scalar.muli c8_i32_42 v90
  let c2_i32_43 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v92 : BitVec 32 := Scalar.muli c2_i32_43 v46
  let v93 : BitVec 32 := Scalar.addi v91 v92
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v94 : BitVec 32 := Scalar.addi v57 v46
  let c2_i32_44 : BitVec 32 := 2#32
  let c0_i32_45 : BitVec 32 := 0#32
  let v95 : BitVec 1 := Scalar.cmpi .eq c2_i32_44 c0_i32_45
  let c1_i32_46 : BitVec 32 := 1#32
  let v96 : BitVec 32 := Scalar.select v95 c1_i32_46 c2_i32_44
  let v97 : BitVec 32 := Scalar.remsi v94 v96
  let c0_i32_48 : BitVec 32 := 0#32
  let v99 : BitVec 1 := Scalar.cmpi .slt v97 c0_i32_48
  let c0_i32_49 : BitVec 32 := 0#32
  let v100 : BitVec 1 := Scalar.cmpi .slt v96 c0_i32_49
  let v101 : BitVec 1 := Scalar.xori v99 v100
  let c0_i32_47 : BitVec 32 := 0#32
  let v98 : BitVec 1 := Scalar.cmpi .ne v97 c0_i32_47
  let v102 : BitVec 1 := Scalar.andi v101 v98
  let v103 : BitVec 32 := Scalar.addi v97 v96
  let v104 : BitVec 32 := Scalar.select v102 v103 v97
  let v105 : BitVec 32 := Scalar.addi v93 v104
  let c1_i32_894 : BitVec 32 := 1#32
  let v753 : BitVec 32 := Scalar.muli v105 c1_i32_894
  let v754 : BitVec 32 := Scalar.addi c0_i32_895 v753
  v754.toNat
def k0_dev28 (d0 : Dev nD) : Nat :=
  let c0_i32_943 : BitVec 32 := 0#32
  let c8_i32_51 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v107 : BitVec 32 := Scalar.muli c8_i32_51 v19
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_50 : BitVec 32 := 2#32
  let v106 : BitVec 32 := Scalar.xori v46 c2_i32_50
  let v108 : BitVec 32 := Scalar.muli c2_i32_52 v106
  let v109 : BitVec 32 := Scalar.addi v107 v108
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v110 : BitVec 32 := Scalar.addi v57 v106
  let c2_i32_53 : BitVec 32 := 2#32
  let c0_i32_54 : BitVec 32 := 0#32
  let v111 : BitVec 1 := Scalar.cmpi .eq c2_i32_53 c0_i32_54
  let c1_i32_55 : BitVec 32 := 1#32
  let v112 : BitVec 32 := Scalar.select v111 c1_i32_55 c2_i32_53
  let v113 : BitVec 32 := Scalar.remsi v110 v112
  let c0_i32_57 : BitVec 32 := 0#32
  let v115 : BitVec 1 := Scalar.cmpi .slt v113 c0_i32_57
  let c0_i32_58 : BitVec 32 := 0#32
  let v116 : BitVec 1 := Scalar.cmpi .slt v112 c0_i32_58
  let v117 : BitVec 1 := Scalar.xori v115 v116
  let c0_i32_56 : BitVec 32 := 0#32
  let v114 : BitVec 1 := Scalar.cmpi .ne v113 c0_i32_56
  let v118 : BitVec 1 := Scalar.andi v117 v114
  let v119 : BitVec 32 := Scalar.addi v113 v112
  let v120 : BitVec 32 := Scalar.select v118 v119 v113
  let v121 : BitVec 32 := Scalar.addi v109 v120
  let c1_i32_942 : BitVec 32 := 1#32
  let v785 : BitVec 32 := Scalar.muli v121 c1_i32_942
  let v786 : BitVec 32 := Scalar.addi c0_i32_943 v785
  v786.toNat
def k0_dev29 (d0 : Dev nD) : Nat :=
  let c0_i32_991 : BitVec 32 := 0#32
  let c8_i32_60 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_59 : BitVec 32 := 2#32
  let v122 : BitVec 32 := Scalar.xori v19 c2_i32_59
  let v123 : BitVec 32 := Scalar.muli c8_i32_60 v122
  let c2_i32_61 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v124 : BitVec 32 := Scalar.muli c2_i32_61 v46
  let v125 : BitVec 32 := Scalar.addi v123 v124
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v126 : BitVec 32 := Scalar.addi v57 v46
  let c2_i32_62 : BitVec 32 := 2#32
  let c0_i32_63 : BitVec 32 := 0#32
  let v127 : BitVec 1 := Scalar.cmpi .eq c2_i32_62 c0_i32_63
  let c1_i32_64 : BitVec 32 := 1#32
  let v128 : BitVec 32 := Scalar.select v127 c1_i32_64 c2_i32_62
  let v129 : BitVec 32 := Scalar.remsi v126 v128
  let c0_i32_66 : BitVec 32 := 0#32
  let v131 : BitVec 1 := Scalar.cmpi .slt v129 c0_i32_66
  let c0_i32_67 : BitVec 32 := 0#32
  let v132 : BitVec 1 := Scalar.cmpi .slt v128 c0_i32_67
  let v133 : BitVec 1 := Scalar.xori v131 v132
  let c0_i32_65 : BitVec 32 := 0#32
  let v130 : BitVec 1 := Scalar.cmpi .ne v129 c0_i32_65
  let v134 : BitVec 1 := Scalar.andi v133 v130
  let v135 : BitVec 32 := Scalar.addi v129 v128
  let v136 : BitVec 32 := Scalar.select v134 v135 v129
  let v137 : BitVec 32 := Scalar.addi v125 v136
  let c1_i32_990 : BitVec 32 := 1#32
  let v817 : BitVec 32 := Scalar.muli v137 c1_i32_990
  let v818 : BitVec 32 := Scalar.addi c0_i32_991 v817
  v818.toNat
def k0_dev30 (d0 : Dev nD) : Nat :=
  let c0_i32_1039 : BitVec 32 := 0#32
  let c8_i32_51 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v107 : BitVec 32 := Scalar.muli c8_i32_51 v19
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_50 : BitVec 32 := 2#32
  let v106 : BitVec 32 := Scalar.xori v46 c2_i32_50
  let v108 : BitVec 32 := Scalar.muli c2_i32_52 v106
  let v109 : BitVec 32 := Scalar.addi v107 v108
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v110 : BitVec 32 := Scalar.addi v57 v106
  let c2_i32_53 : BitVec 32 := 2#32
  let c0_i32_54 : BitVec 32 := 0#32
  let v111 : BitVec 1 := Scalar.cmpi .eq c2_i32_53 c0_i32_54
  let c1_i32_55 : BitVec 32 := 1#32
  let v112 : BitVec 32 := Scalar.select v111 c1_i32_55 c2_i32_53
  let v113 : BitVec 32 := Scalar.remsi v110 v112
  let c0_i32_57 : BitVec 32 := 0#32
  let v115 : BitVec 1 := Scalar.cmpi .slt v113 c0_i32_57
  let c0_i32_58 : BitVec 32 := 0#32
  let v116 : BitVec 1 := Scalar.cmpi .slt v112 c0_i32_58
  let v117 : BitVec 1 := Scalar.xori v115 v116
  let c0_i32_56 : BitVec 32 := 0#32
  let v114 : BitVec 1 := Scalar.cmpi .ne v113 c0_i32_56
  let v118 : BitVec 1 := Scalar.andi v117 v114
  let v119 : BitVec 32 := Scalar.addi v113 v112
  let v120 : BitVec 32 := Scalar.select v118 v119 v113
  let v121 : BitVec 32 := Scalar.addi v109 v120
  let c1_i32_1038 : BitVec 32 := 1#32
  let v849 : BitVec 32 := Scalar.muli v121 c1_i32_1038
  let v850 : BitVec 32 := Scalar.addi c0_i32_1039 v849
  v850.toNat
def k0_dev31 (d0 : Dev nD) : Nat :=
  let c0_i32_1087 : BitVec 32 := 0#32
  let c8_i32_60 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_59 : BitVec 32 := 2#32
  let v122 : BitVec 32 := Scalar.xori v19 c2_i32_59
  let v123 : BitVec 32 := Scalar.muli c8_i32_60 v122
  let c2_i32_61 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v124 : BitVec 32 := Scalar.muli c2_i32_61 v46
  let v125 : BitVec 32 := Scalar.addi v123 v124
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v126 : BitVec 32 := Scalar.addi v57 v46
  let c2_i32_62 : BitVec 32 := 2#32
  let c0_i32_63 : BitVec 32 := 0#32
  let v127 : BitVec 1 := Scalar.cmpi .eq c2_i32_62 c0_i32_63
  let c1_i32_64 : BitVec 32 := 1#32
  let v128 : BitVec 32 := Scalar.select v127 c1_i32_64 c2_i32_62
  let v129 : BitVec 32 := Scalar.remsi v126 v128
  let c0_i32_66 : BitVec 32 := 0#32
  let v131 : BitVec 1 := Scalar.cmpi .slt v129 c0_i32_66
  let c0_i32_67 : BitVec 32 := 0#32
  let v132 : BitVec 1 := Scalar.cmpi .slt v128 c0_i32_67
  let v133 : BitVec 1 := Scalar.xori v131 v132
  let c0_i32_65 : BitVec 32 := 0#32
  let v130 : BitVec 1 := Scalar.cmpi .ne v129 c0_i32_65
  let v134 : BitVec 1 := Scalar.andi v133 v130
  let v135 : BitVec 32 := Scalar.addi v129 v128
  let v136 : BitVec 32 := Scalar.select v134 v135 v129
  let v137 : BitVec 32 := Scalar.addi v125 v136
  let c1_i32_1086 : BitVec 32 := 1#32
  let v881 : BitVec 32 := Scalar.muli v137 c1_i32_1086
  let v882 : BitVec 32 := Scalar.addi c0_i32_1087 v881
  v882.toNat
def k0_dev32 (d0 : Dev nD) : Nat :=
  let c0_i32_1135 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v59 : BitVec 32 := Scalar.muli c8_i32_24 v19
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v62 : BitVec 32 := Scalar.addi v58 v46
  let c2_i32_26 : BitVec 32 := 2#32
  let c0_i32_27 : BitVec 32 := 0#32
  let v63 : BitVec 1 := Scalar.cmpi .eq c2_i32_26 c0_i32_27
  let c1_i32_28 : BitVec 32 := 1#32
  let v64 : BitVec 32 := Scalar.select v63 c1_i32_28 c2_i32_26
  let v65 : BitVec 32 := Scalar.remsi v62 v64
  let c0_i32_30 : BitVec 32 := 0#32
  let v67 : BitVec 1 := Scalar.cmpi .slt v65 c0_i32_30
  let c0_i32_31 : BitVec 32 := 0#32
  let v68 : BitVec 1 := Scalar.cmpi .slt v64 c0_i32_31
  let v69 : BitVec 1 := Scalar.xori v67 v68
  let c0_i32_29 : BitVec 32 := 0#32
  let v66 : BitVec 1 := Scalar.cmpi .ne v65 c0_i32_29
  let v70 : BitVec 1 := Scalar.andi v69 v66
  let v71 : BitVec 32 := Scalar.addi v65 v64
  let v72 : BitVec 32 := Scalar.select v70 v71 v65
  let v73 : BitVec 32 := Scalar.addi v61 v72
  let c1_i32_1134 : BitVec 32 := 1#32
  let v913 : BitVec 32 := Scalar.muli v73 c1_i32_1134
  let v914 : BitVec 32 := Scalar.addi c0_i32_1135 v913
  v914.toNat
def k0_dev33 (d0 : Dev nD) : Nat :=
  let c0_i32_1183 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v75 : BitVec 32 := Scalar.muli c8_i32_33 v19
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v78 : BitVec 32 := Scalar.addi v57 v74
  let c2_i32_35 : BitVec 32 := 2#32
  let c0_i32_36 : BitVec 32 := 0#32
  let v79 : BitVec 1 := Scalar.cmpi .eq c2_i32_35 c0_i32_36
  let c1_i32_37 : BitVec 32 := 1#32
  let v80 : BitVec 32 := Scalar.select v79 c1_i32_37 c2_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let v89 : BitVec 32 := Scalar.addi v77 v88
  let c1_i32_1182 : BitVec 32 := 1#32
  let v945 : BitVec 32 := Scalar.muli v89 c1_i32_1182
  let v946 : BitVec 32 := Scalar.addi c0_i32_1183 v945
  v946.toNat
def k0_dev34 (d0 : Dev nD) : Nat :=
  let c0_i32_1231 : BitVec 32 := 0#32
  let c8_i32_42 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_41 : BitVec 32 := 1#32
  let v90 : BitVec 32 := Scalar.xori v19 c1_i32_41
  let v91 : BitVec 32 := Scalar.muli c8_i32_42 v90
  let c2_i32_43 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v92 : BitVec 32 := Scalar.muli c2_i32_43 v46
  let v93 : BitVec 32 := Scalar.addi v91 v92
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v94 : BitVec 32 := Scalar.addi v57 v46
  let c2_i32_44 : BitVec 32 := 2#32
  let c0_i32_45 : BitVec 32 := 0#32
  let v95 : BitVec 1 := Scalar.cmpi .eq c2_i32_44 c0_i32_45
  let c1_i32_46 : BitVec 32 := 1#32
  let v96 : BitVec 32 := Scalar.select v95 c1_i32_46 c2_i32_44
  let v97 : BitVec 32 := Scalar.remsi v94 v96
  let c0_i32_48 : BitVec 32 := 0#32
  let v99 : BitVec 1 := Scalar.cmpi .slt v97 c0_i32_48
  let c0_i32_49 : BitVec 32 := 0#32
  let v100 : BitVec 1 := Scalar.cmpi .slt v96 c0_i32_49
  let v101 : BitVec 1 := Scalar.xori v99 v100
  let c0_i32_47 : BitVec 32 := 0#32
  let v98 : BitVec 1 := Scalar.cmpi .ne v97 c0_i32_47
  let v102 : BitVec 1 := Scalar.andi v101 v98
  let v103 : BitVec 32 := Scalar.addi v97 v96
  let v104 : BitVec 32 := Scalar.select v102 v103 v97
  let v105 : BitVec 32 := Scalar.addi v93 v104
  let c1_i32_1230 : BitVec 32 := 1#32
  let v977 : BitVec 32 := Scalar.muli v105 c1_i32_1230
  let v978 : BitVec 32 := Scalar.addi c0_i32_1231 v977
  v978.toNat
def k0_dev35 (d0 : Dev nD) : Nat :=
  let c0_i32_1279 : BitVec 32 := 0#32
  let c8_i32_51 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v107 : BitVec 32 := Scalar.muli c8_i32_51 v19
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_50 : BitVec 32 := 2#32
  let v106 : BitVec 32 := Scalar.xori v46 c2_i32_50
  let v108 : BitVec 32 := Scalar.muli c2_i32_52 v106
  let v109 : BitVec 32 := Scalar.addi v107 v108
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v110 : BitVec 32 := Scalar.addi v57 v106
  let c2_i32_53 : BitVec 32 := 2#32
  let c0_i32_54 : BitVec 32 := 0#32
  let v111 : BitVec 1 := Scalar.cmpi .eq c2_i32_53 c0_i32_54
  let c1_i32_55 : BitVec 32 := 1#32
  let v112 : BitVec 32 := Scalar.select v111 c1_i32_55 c2_i32_53
  let v113 : BitVec 32 := Scalar.remsi v110 v112
  let c0_i32_57 : BitVec 32 := 0#32
  let v115 : BitVec 1 := Scalar.cmpi .slt v113 c0_i32_57
  let c0_i32_58 : BitVec 32 := 0#32
  let v116 : BitVec 1 := Scalar.cmpi .slt v112 c0_i32_58
  let v117 : BitVec 1 := Scalar.xori v115 v116
  let c0_i32_56 : BitVec 32 := 0#32
  let v114 : BitVec 1 := Scalar.cmpi .ne v113 c0_i32_56
  let v118 : BitVec 1 := Scalar.andi v117 v114
  let v119 : BitVec 32 := Scalar.addi v113 v112
  let v120 : BitVec 32 := Scalar.select v118 v119 v113
  let v121 : BitVec 32 := Scalar.addi v109 v120
  let c1_i32_1278 : BitVec 32 := 1#32
  let v1009 : BitVec 32 := Scalar.muli v121 c1_i32_1278
  let v1010 : BitVec 32 := Scalar.addi c0_i32_1279 v1009
  v1010.toNat
def k0_dev36 (d0 : Dev nD) : Nat :=
  let c0_i32_1327 : BitVec 32 := 0#32
  let c8_i32_60 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_59 : BitVec 32 := 2#32
  let v122 : BitVec 32 := Scalar.xori v19 c2_i32_59
  let v123 : BitVec 32 := Scalar.muli c8_i32_60 v122
  let c2_i32_61 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v124 : BitVec 32 := Scalar.muli c2_i32_61 v46
  let v125 : BitVec 32 := Scalar.addi v123 v124
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v126 : BitVec 32 := Scalar.addi v57 v46
  let c2_i32_62 : BitVec 32 := 2#32
  let c0_i32_63 : BitVec 32 := 0#32
  let v127 : BitVec 1 := Scalar.cmpi .eq c2_i32_62 c0_i32_63
  let c1_i32_64 : BitVec 32 := 1#32
  let v128 : BitVec 32 := Scalar.select v127 c1_i32_64 c2_i32_62
  let v129 : BitVec 32 := Scalar.remsi v126 v128
  let c0_i32_66 : BitVec 32 := 0#32
  let v131 : BitVec 1 := Scalar.cmpi .slt v129 c0_i32_66
  let c0_i32_67 : BitVec 32 := 0#32
  let v132 : BitVec 1 := Scalar.cmpi .slt v128 c0_i32_67
  let v133 : BitVec 1 := Scalar.xori v131 v132
  let c0_i32_65 : BitVec 32 := 0#32
  let v130 : BitVec 1 := Scalar.cmpi .ne v129 c0_i32_65
  let v134 : BitVec 1 := Scalar.andi v133 v130
  let v135 : BitVec 32 := Scalar.addi v129 v128
  let v136 : BitVec 32 := Scalar.select v134 v135 v129
  let v137 : BitVec 32 := Scalar.addi v125 v136
  let c1_i32_1326 : BitVec 32 := 1#32
  let v1041 : BitVec 32 := Scalar.muli v137 c1_i32_1326
  let v1042 : BitVec 32 := Scalar.addi c0_i32_1327 v1041
  v1042.toNat
def k0_dev37 (d0 : Dev nD) : Nat :=
  let c0_i32_1375 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v59 : BitVec 32 := Scalar.muli c8_i32_24 v19
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v62 : BitVec 32 := Scalar.addi v58 v46
  let c2_i32_26 : BitVec 32 := 2#32
  let c0_i32_27 : BitVec 32 := 0#32
  let v63 : BitVec 1 := Scalar.cmpi .eq c2_i32_26 c0_i32_27
  let c1_i32_28 : BitVec 32 := 1#32
  let v64 : BitVec 32 := Scalar.select v63 c1_i32_28 c2_i32_26
  let v65 : BitVec 32 := Scalar.remsi v62 v64
  let c0_i32_30 : BitVec 32 := 0#32
  let v67 : BitVec 1 := Scalar.cmpi .slt v65 c0_i32_30
  let c0_i32_31 : BitVec 32 := 0#32
  let v68 : BitVec 1 := Scalar.cmpi .slt v64 c0_i32_31
  let v69 : BitVec 1 := Scalar.xori v67 v68
  let c0_i32_29 : BitVec 32 := 0#32
  let v66 : BitVec 1 := Scalar.cmpi .ne v65 c0_i32_29
  let v70 : BitVec 1 := Scalar.andi v69 v66
  let v71 : BitVec 32 := Scalar.addi v65 v64
  let v72 : BitVec 32 := Scalar.select v70 v71 v65
  let v73 : BitVec 32 := Scalar.addi v61 v72
  let c1_i32_1374 : BitVec 32 := 1#32
  let v1073 : BitVec 32 := Scalar.muli v73 c1_i32_1374
  let v1074 : BitVec 32 := Scalar.addi c0_i32_1375 v1073
  v1074.toNat
def k0_dev38 (d0 : Dev nD) : Nat :=
  let c0_i32_1423 : BitVec 32 := 0#32
  let c8_i32_60 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_59 : BitVec 32 := 2#32
  let v122 : BitVec 32 := Scalar.xori v19 c2_i32_59
  let v123 : BitVec 32 := Scalar.muli c8_i32_60 v122
  let c2_i32_61 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v124 : BitVec 32 := Scalar.muli c2_i32_61 v46
  let v125 : BitVec 32 := Scalar.addi v123 v124
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v126 : BitVec 32 := Scalar.addi v57 v46
  let c2_i32_62 : BitVec 32 := 2#32
  let c0_i32_63 : BitVec 32 := 0#32
  let v127 : BitVec 1 := Scalar.cmpi .eq c2_i32_62 c0_i32_63
  let c1_i32_64 : BitVec 32 := 1#32
  let v128 : BitVec 32 := Scalar.select v127 c1_i32_64 c2_i32_62
  let v129 : BitVec 32 := Scalar.remsi v126 v128
  let c0_i32_66 : BitVec 32 := 0#32
  let v131 : BitVec 1 := Scalar.cmpi .slt v129 c0_i32_66
  let c0_i32_67 : BitVec 32 := 0#32
  let v132 : BitVec 1 := Scalar.cmpi .slt v128 c0_i32_67
  let v133 : BitVec 1 := Scalar.xori v131 v132
  let c0_i32_65 : BitVec 32 := 0#32
  let v130 : BitVec 1 := Scalar.cmpi .ne v129 c0_i32_65
  let v134 : BitVec 1 := Scalar.andi v133 v130
  let v135 : BitVec 32 := Scalar.addi v129 v128
  let v136 : BitVec 32 := Scalar.select v134 v135 v129
  let v137 : BitVec 32 := Scalar.addi v125 v136
  let c1_i32_1422 : BitVec 32 := 1#32
  let v1105 : BitVec 32 := Scalar.muli v137 c1_i32_1422
  let v1106 : BitVec 32 := Scalar.addi c0_i32_1423 v1105
  v1106.toNat
def k0_dev39 (d0 : Dev nD) : Nat :=
  let c0_i32_1471 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v59 : BitVec 32 := Scalar.muli c8_i32_24 v19
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v62 : BitVec 32 := Scalar.addi v58 v46
  let c2_i32_26 : BitVec 32 := 2#32
  let c0_i32_27 : BitVec 32 := 0#32
  let v63 : BitVec 1 := Scalar.cmpi .eq c2_i32_26 c0_i32_27
  let c1_i32_28 : BitVec 32 := 1#32
  let v64 : BitVec 32 := Scalar.select v63 c1_i32_28 c2_i32_26
  let v65 : BitVec 32 := Scalar.remsi v62 v64
  let c0_i32_30 : BitVec 32 := 0#32
  let v67 : BitVec 1 := Scalar.cmpi .slt v65 c0_i32_30
  let c0_i32_31 : BitVec 32 := 0#32
  let v68 : BitVec 1 := Scalar.cmpi .slt v64 c0_i32_31
  let v69 : BitVec 1 := Scalar.xori v67 v68
  let c0_i32_29 : BitVec 32 := 0#32
  let v66 : BitVec 1 := Scalar.cmpi .ne v65 c0_i32_29
  let v70 : BitVec 1 := Scalar.andi v69 v66
  let v71 : BitVec 32 := Scalar.addi v65 v64
  let v72 : BitVec 32 := Scalar.select v70 v71 v65
  let v73 : BitVec 32 := Scalar.addi v61 v72
  let c1_i32_1470 : BitVec 32 := 1#32
  let v1137 : BitVec 32 := Scalar.muli v73 c1_i32_1470
  let v1138 : BitVec 32 := Scalar.addi c0_i32_1471 v1137
  v1138.toNat
def k0_dev40 (d0 : Dev nD) : Nat :=
  let c0_i32_1519 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v75 : BitVec 32 := Scalar.muli c8_i32_33 v19
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v78 : BitVec 32 := Scalar.addi v57 v74
  let c2_i32_35 : BitVec 32 := 2#32
  let c0_i32_36 : BitVec 32 := 0#32
  let v79 : BitVec 1 := Scalar.cmpi .eq c2_i32_35 c0_i32_36
  let c1_i32_37 : BitVec 32 := 1#32
  let v80 : BitVec 32 := Scalar.select v79 c1_i32_37 c2_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let v89 : BitVec 32 := Scalar.addi v77 v88
  let c1_i32_1518 : BitVec 32 := 1#32
  let v1169 : BitVec 32 := Scalar.muli v89 c1_i32_1518
  let v1170 : BitVec 32 := Scalar.addi c0_i32_1519 v1169
  v1170.toNat
def k0_dev41 (d0 : Dev nD) : Nat :=
  let c0_i32_1567 : BitVec 32 := 0#32
  let c8_i32_42 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_41 : BitVec 32 := 1#32
  let v90 : BitVec 32 := Scalar.xori v19 c1_i32_41
  let v91 : BitVec 32 := Scalar.muli c8_i32_42 v90
  let c2_i32_43 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v92 : BitVec 32 := Scalar.muli c2_i32_43 v46
  let v93 : BitVec 32 := Scalar.addi v91 v92
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v94 : BitVec 32 := Scalar.addi v57 v46
  let c2_i32_44 : BitVec 32 := 2#32
  let c0_i32_45 : BitVec 32 := 0#32
  let v95 : BitVec 1 := Scalar.cmpi .eq c2_i32_44 c0_i32_45
  let c1_i32_46 : BitVec 32 := 1#32
  let v96 : BitVec 32 := Scalar.select v95 c1_i32_46 c2_i32_44
  let v97 : BitVec 32 := Scalar.remsi v94 v96
  let c0_i32_48 : BitVec 32 := 0#32
  let v99 : BitVec 1 := Scalar.cmpi .slt v97 c0_i32_48
  let c0_i32_49 : BitVec 32 := 0#32
  let v100 : BitVec 1 := Scalar.cmpi .slt v96 c0_i32_49
  let v101 : BitVec 1 := Scalar.xori v99 v100
  let c0_i32_47 : BitVec 32 := 0#32
  let v98 : BitVec 1 := Scalar.cmpi .ne v97 c0_i32_47
  let v102 : BitVec 1 := Scalar.andi v101 v98
  let v103 : BitVec 32 := Scalar.addi v97 v96
  let v104 : BitVec 32 := Scalar.select v102 v103 v97
  let v105 : BitVec 32 := Scalar.addi v93 v104
  let c1_i32_1566 : BitVec 32 := 1#32
  let v1201 : BitVec 32 := Scalar.muli v105 c1_i32_1566
  let v1202 : BitVec 32 := Scalar.addi c0_i32_1567 v1201
  v1202.toNat
def k0_dev42 (d0 : Dev nD) : Nat :=
  let c0_i32_1615 : BitVec 32 := 0#32
  let c8_i32_51 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v107 : BitVec 32 := Scalar.muli c8_i32_51 v19
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_50 : BitVec 32 := 2#32
  let v106 : BitVec 32 := Scalar.xori v46 c2_i32_50
  let v108 : BitVec 32 := Scalar.muli c2_i32_52 v106
  let v109 : BitVec 32 := Scalar.addi v107 v108
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v110 : BitVec 32 := Scalar.addi v57 v106
  let c2_i32_53 : BitVec 32 := 2#32
  let c0_i32_54 : BitVec 32 := 0#32
  let v111 : BitVec 1 := Scalar.cmpi .eq c2_i32_53 c0_i32_54
  let c1_i32_55 : BitVec 32 := 1#32
  let v112 : BitVec 32 := Scalar.select v111 c1_i32_55 c2_i32_53
  let v113 : BitVec 32 := Scalar.remsi v110 v112
  let c0_i32_57 : BitVec 32 := 0#32
  let v115 : BitVec 1 := Scalar.cmpi .slt v113 c0_i32_57
  let c0_i32_58 : BitVec 32 := 0#32
  let v116 : BitVec 1 := Scalar.cmpi .slt v112 c0_i32_58
  let v117 : BitVec 1 := Scalar.xori v115 v116
  let c0_i32_56 : BitVec 32 := 0#32
  let v114 : BitVec 1 := Scalar.cmpi .ne v113 c0_i32_56
  let v118 : BitVec 1 := Scalar.andi v117 v114
  let v119 : BitVec 32 := Scalar.addi v113 v112
  let v120 : BitVec 32 := Scalar.select v118 v119 v113
  let v121 : BitVec 32 := Scalar.addi v109 v120
  let c1_i32_1614 : BitVec 32 := 1#32
  let v1233 : BitVec 32 := Scalar.muli v121 c1_i32_1614
  let v1234 : BitVec 32 := Scalar.addi c0_i32_1615 v1233
  v1234.toNat
def k0_dev43 (d0 : Dev nD) : Nat :=
  let c0_i32_1663 : BitVec 32 := 0#32
  let c8_i32_60 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_59 : BitVec 32 := 2#32
  let v122 : BitVec 32 := Scalar.xori v19 c2_i32_59
  let v123 : BitVec 32 := Scalar.muli c8_i32_60 v122
  let c2_i32_61 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v124 : BitVec 32 := Scalar.muli c2_i32_61 v46
  let v125 : BitVec 32 := Scalar.addi v123 v124
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v126 : BitVec 32 := Scalar.addi v57 v46
  let c2_i32_62 : BitVec 32 := 2#32
  let c0_i32_63 : BitVec 32 := 0#32
  let v127 : BitVec 1 := Scalar.cmpi .eq c2_i32_62 c0_i32_63
  let c1_i32_64 : BitVec 32 := 1#32
  let v128 : BitVec 32 := Scalar.select v127 c1_i32_64 c2_i32_62
  let v129 : BitVec 32 := Scalar.remsi v126 v128
  let c0_i32_66 : BitVec 32 := 0#32
  let v131 : BitVec 1 := Scalar.cmpi .slt v129 c0_i32_66
  let c0_i32_67 : BitVec 32 := 0#32
  let v132 : BitVec 1 := Scalar.cmpi .slt v128 c0_i32_67
  let v133 : BitVec 1 := Scalar.xori v131 v132
  let c0_i32_65 : BitVec 32 := 0#32
  let v130 : BitVec 1 := Scalar.cmpi .ne v129 c0_i32_65
  let v134 : BitVec 1 := Scalar.andi v133 v130
  let v135 : BitVec 32 := Scalar.addi v129 v128
  let v136 : BitVec 32 := Scalar.select v134 v135 v129
  let v137 : BitVec 32 := Scalar.addi v125 v136
  let c1_i32_1662 : BitVec 32 := 1#32
  let v1265 : BitVec 32 := Scalar.muli v137 c1_i32_1662
  let v1266 : BitVec 32 := Scalar.addi c0_i32_1663 v1265
  v1266.toNat
def k0_dev44 (d0 : Dev nD) : Nat :=
  let c0_i32_1711 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v59 : BitVec 32 := Scalar.muli c8_i32_24 v19
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v62 : BitVec 32 := Scalar.addi v58 v46
  let c2_i32_26 : BitVec 32 := 2#32
  let c0_i32_27 : BitVec 32 := 0#32
  let v63 : BitVec 1 := Scalar.cmpi .eq c2_i32_26 c0_i32_27
  let c1_i32_28 : BitVec 32 := 1#32
  let v64 : BitVec 32 := Scalar.select v63 c1_i32_28 c2_i32_26
  let v65 : BitVec 32 := Scalar.remsi v62 v64
  let c0_i32_30 : BitVec 32 := 0#32
  let v67 : BitVec 1 := Scalar.cmpi .slt v65 c0_i32_30
  let c0_i32_31 : BitVec 32 := 0#32
  let v68 : BitVec 1 := Scalar.cmpi .slt v64 c0_i32_31
  let v69 : BitVec 1 := Scalar.xori v67 v68
  let c0_i32_29 : BitVec 32 := 0#32
  let v66 : BitVec 1 := Scalar.cmpi .ne v65 c0_i32_29
  let v70 : BitVec 1 := Scalar.andi v69 v66
  let v71 : BitVec 32 := Scalar.addi v65 v64
  let v72 : BitVec 32 := Scalar.select v70 v71 v65
  let v73 : BitVec 32 := Scalar.addi v61 v72
  let c1_i32_1710 : BitVec 32 := 1#32
  let v1297 : BitVec 32 := Scalar.muli v73 c1_i32_1710
  let v1298 : BitVec 32 := Scalar.addi c0_i32_1711 v1297
  v1298.toNat
def k0_dev45 (d0 : Dev nD) : Nat :=
  let c0_i32_1759 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v75 : BitVec 32 := Scalar.muli c8_i32_33 v19
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v78 : BitVec 32 := Scalar.addi v57 v74
  let c2_i32_35 : BitVec 32 := 2#32
  let c0_i32_36 : BitVec 32 := 0#32
  let v79 : BitVec 1 := Scalar.cmpi .eq c2_i32_35 c0_i32_36
  let c1_i32_37 : BitVec 32 := 1#32
  let v80 : BitVec 32 := Scalar.select v79 c1_i32_37 c2_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let v89 : BitVec 32 := Scalar.addi v77 v88
  let c1_i32_1758 : BitVec 32 := 1#32
  let v1329 : BitVec 32 := Scalar.muli v89 c1_i32_1758
  let v1330 : BitVec 32 := Scalar.addi c0_i32_1759 v1329
  v1330.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x256 : Shape := ⟨2, ![256, 256]⟩
abbrev S256x16384 : Shape := ⟨2, ![256, 16384]⟩
abbrev S16384x256 : Shape := ⟨2, ![16384, 256]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S256x256, .bf16⟩
  | .hbm, ⟨1, _⟩ => ⟨S256x16384, .bf16⟩
  | .hbm, ⟨2, _⟩ => ⟨S16384x256, .bf16⟩
  | .hbm, ⟨3, _⟩ => ⟨S256x16384, .f32⟩
  | .hbm, ⟨4, _⟩ => ⟨S256x16384, .bf16⟩
  | .hbm, ⟨5, _⟩ => ⟨S_, .bf16⟩
  | .hbm, ⟨6, _⟩ => ⟨S256x16384, .bf16⟩
  | .hbm, ⟨7, _⟩ => ⟨S256x16384, .bf16⟩
  | .hbm, ⟨8, _⟩ => ⟨S256x256, .f32⟩
  | .hbm, ⟨9, _⟩ => ⟨S256x256, .bf16⟩
  | _, _ => ⟨S256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.Form.lean ====
/-
The kernel's body as one uniform program.

The printed body is a straight line of some three hundred memory operations. Here they are gathered into a few operations
indexed by a chunk `c : Fin 8` (32 rows of the result) and a step `t : Fin 5` of the exchange:

* `firstOp c`   — the chunk's product of this device's blocks, stored into the accumulator's slot `c`;
* `sendOp e c t` — start the copy of slot `c` into slot `(c, t)` of device `e`'s receive buffer;
* `waitOp c t`  — wait for that copy to have left, and for the partner's copy to have arrived;
* `mixOp c t`   — add what arrived to the accumulator's slot `c`;
* `outOp c`     — add what arrived last, and store the sum into the result's rows.

`body_form` says that the printed body is the program made of these, the partners it names being read off the printed text.
-/
module

public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.AllReduce

open Cert.KernelIdeal Cert.KernelIdeal.Gen
open Idealize.ShloMosaic Idealize.ShloMosaic.TcCoe
open Idealize.SL.Sem

variable {F : FTy → Type} [FloatOps F]

/-! ## The memrefs -/

/-- The staged operands and the staged result. -/
abbrev xM : Memref sig .tc .vmem S256x256 .bf16 := Memref.whole cc0_stg0_0
abbrev w1M : Memref sig .tc .vmem S256x512 .bf16 := Memref.whole cc0_stg1_0
abbrev w2M : Memref sig .tc .vmem S512x256 .bf16 := Memref.whole cc0_stg2_0
abbrev oM : Memref sig .tc .vmem S256x256 .bf16 := Memref.whole cc0_stg3_0
/-- The accumulator, one slot a chunk, and the receive buffer, one slot a chunk and step. -/
abbrev accM : Memref sig .tc .vmem S8x32x256 .bf16 := Memref.whole cc0_scratch0
abbrev recM : Memref sig .tc .vmem S8x5x32x256 .bf16 := Memref.whole cc0_scratch1

/-- The barrier semaphore. -/
abbrev barS : Sem sig := (SemArray.scalar (sig.barrier 0 rfl) : Sems sig S_).sem

/-- A slot of the accumulator lies within it. -/
theorem acc_inb (c : Fin 8) : ∀ a, (![c.val, 0, 0] : Fin 3 → Nat) a + S1x32x256.size a ≤ S8x32x256.size a := by
  revert c; decide
/-- A slot of the receive buffer lies within it. -/
theorem rec_inb (c : Fin 8) (t : Fin 5) : ∀ a, (![c.val, t.val, 0, 0] : Fin 4 → Nat) a + S1x1x32x256.size a ≤ S8x5x32x256.size a := by
  revert c t; decide
/-- A semaphore of a chunk and step lies within its array. -/
theorem sem_inb (c : Fin 8) (t : Fin 5) : ∀ a, (![c.val, t.val] : Fin 2 → Nat) a + S1x1.size a ≤ S8x5.size a := by
  revert c t; decide
/-- A chunk of result rows lies within the result. -/
theorem out_inb (c : Fin 8) : ∀ a, (![32 * c.val, 0] : Fin 2 → Nat) a + S32x256.size a ≤ S256x256.size a := by
  revert c; decide
/-- A chunk of the input's rows is a slice of the input. -/
theorem out_slices (c : Fin 8) : S256x256.Slices ![32 * c.val, 0] S32x256 := by
  revert c; decide

/-- The rectangles of one accumulator slot, one receive slot and one chunk of result rows. -/
abbrev accR (c : Fin 8) : Rect S8x32x256 := Rect.unit (s := S8x32x256) ![c.val, 0, 0] S1x32x256.size (acc_inb c)
abbrev recR (c : Fin 8) (t : Fin 5) : Rect S8x5x32x256 := Rect.unit (s := S8x5x32x256) ![c.val, t.val, 0, 0] S1x1x32x256.size (rec_inb c t)
abbrev outR (c : Fin 8) : Rect S256x256 := Rect.unit (s := S256x256) ![32 * c.val, 0] S32x256.size (out_inb c)

/-- A slot of the accumulator covers whole packed rows. -/
theorem acc_packed (c : Fin 8) : (accR c).PackedRows (EltTy.packing .bf16) := by fin_cases c <;> decide
/-- It covers whole words, -/
theorem acc_words (c : Fin 8) : (accR c).WholeWords (EltTy.packing .bf16) := by fin_cases c <;> decide
/-- and so does a slot of the receive buffer. -/
theorem rec_words (c : Fin 8) (t : Fin 5) : (recR c t).WholeWords (EltTy.packing .bf16) := by fin_cases c <;> fin_cases t <;> decide
/-- A chunk of result rows covers whole packed rows. -/
theorem out_packed (c : Fin 8) : (outR c).PackedRows (EltTy.packing .bf16) := by fin_cases c <;> decide

/-- A slot as the 32×256 block a copy reads or writes. -/
abbrev accV (c : Fin 8) : Memref sig .tc .vmem S32x256 .bf16 :=
  (accM.slice (accR c) (fun _ => rfl)).squeeze S32x256 squeezes_S1x32x256_S32x256
/-- Slot `(c, t)` of the receive buffer. -/
abbrev recV (c : Fin 8) (t : Fin 5) : Memref sig .tc .vmem S32x256 .bf16 :=
  (recM.slice (recR c t) (fun _ => rfl)).squeeze S32x256 squeezes_S1x1x32x256_S32x256

/-- The semaphore a copy raises on its sender and the one it raises on its receiver. -/
abbrev sendS (c : Fin 8) (t : Fin 5) : DmaSem sig :=
  ((cc0_scratch2.slice (Rect.unit (s := S8x5) ![c.val, t.val] S1x1.size (sem_inb c t))).squeeze S_ squeezes_S1x1_S_).sem
/-- The semaphore on which the arrival at `(c, t)` is counted. -/
abbrev recvS (c : Fin 8) (t : Fin 5) : DmaSem sig :=
  ((cc0_scratch3.slice (Rect.unit (s := S8x5) ![c.val, t.val] S1x1.size (sem_inb c t))).squeeze S_ squeezes_S1x1_S_).sem

/-- A slot of the accumulator is made of whole words. -/
theorem accV_words (c : Fin 8) : (accV c).view.WordExact :=
  ((Memref.isWhole_whole cc0_scratch0).wordExact_slice rfl _ (acc_words c)).reshape _ _
/-- A slot of the receive buffer is made of whole words. -/
theorem recV_words (c : Fin 8) (t : Fin 5) : (recV c t).view.WordExact :=
  ((Memref.isWhole_whole cc0_scratch1).wordExact_slice rfl _ (rec_words c t)).reshape _ _

/-! ## The values stored -/

/-- Chunk `c` of a device's product: the chunk's rows of `x` times `w1`, clipped at zero, rounded, times `w2`, rounded. -/
def product (c : Fin 8) (x : Vec F S256x256 .bf16) (w1 : Vec F S256x512 .bf16) (w2 : Vec F S512x256 .bf16) : FVec F S32x256 .bf16 :=
  truncf .bf16 (matmul dot_S32x512_S512x256_S32x256_1_0_0_1_n_n none
    (truncf .bf16 (maximumf (matmul dot_S32x256_S256x512_S32x512_1_0_0_1_n_n none
      (extractStridedSlice S32x256 ![32 * c.val, 0] (shapeCast S256x256 x shapeCasts_S256x256_S256x256) (out_slices c))
      (shapeCast S256x512 w1 shapeCasts_S256x512_S256x512) (constant S32x512 .f32 0x00000000#32))
      (broadcast S32x512 (Scalar.ofBits .f32 0x00000000#32))) bitsLt_bf16_f32)
    (shapeCast S512x256 w2 shapeCasts_S512x256_S512x256) (constant S32x256 .f32 0x00000000#32)) bitsLt_bf16_f32

/-- What an accumulator slot is stored as for the block `v`. -/
def slotOf (v : FVec F S32x256 .bf16) : FVec F S1x32x256 .bf16 := shapeCast S1x32x256 v shapeCasts_S32x256_S1x32x256

/-- A slot's contents plus an arrival. -/
def addIn (v : Vec F S1x32x256 .bf16) (w : Vec F S1x1x32x256 .bf16) : FVec F S32x256 .bf16 :=
  addf (shapeCast S32x256 v shapeCasts_S1x32x256_S32x256) (shapeCast S32x256 w shapeCasts_S1x1x32x256_S32x256)

/-! ## The operations -/

/-- Programs of one TensorCore. -/
abbrev Pr (F : FTy → Type) (α : Type) : Type 1 := Prog (TpuEff nD τ sig (Elt F) Λ₀ .tc) α

/-- Load slot `c` of the accumulator. -/
abbrev loadAcc (c : Fin 8) : Pr F (Vec F S1x32x256 .bf16) :=
  Prog.lift (.load accM (accR c).toLoadRect (View.loadsAt_vmem h_S1x32x256))
/-- Store slot `c` of the accumulator. -/
abbrev storeAcc (c : Fin 8) (v : FVec F S32x256 .bf16) : Pr F PUnit :=
  Prog.lift (.store accM (accR c) (slotOf v) Finset.univ
    (View.stores_vmem h_S1x32x256 ((Memref.isWhole_whole cc0_scratch0).storeExact_slice rfl _ (acc_packed c)) (fun _ => rfl)) (.inl rfl))
/-- Load slot `(c, t)` of the receive buffer. -/
abbrev loadRec (c : Fin 8) (t : Fin 5) : Pr F (Vec F S1x1x32x256 .bf16) :=
  Prog.lift (.load recM (recR c t).toLoadRect (View.loadsAt_vmem h_S1x1x32x256))
/-- Load chunk `c` of the result's rows. -/
abbrev loadOut (c : Fin 8) : Pr F (Vec F S32x256 .bf16) :=
  Prog.lift (.load oM (outR c).toLoadRect (View.loadsAt_vmem h_S32x256))
/-- Store chunk `c` of the result's rows. -/
abbrev storeOut (c : Fin 8) (v : FVec F S32x256 .bf16) : Pr F PUnit :=
  Prog.lift (.store oM (outR c) v Finset.univ
    (View.stores_vmem h_S32x256 ((Memref.isWhole_whole cc0_stg3_0).storeExact_slice rfl _ (out_packed c)) (fun _ => rfl)) (.inl rfl))

/-- The chunk's product, into its slot. -/
def firstOp (x : Vec F S256x256 .bf16) (w1 : Vec F S256x512 .bf16) (w2 : Vec F S512x256 .bf16) (c : Fin 8) : Pr F PUnit := do
  let _ ← loadAcc c
  storeAcc c (product c x w1 w2)

/-- Slot `c` to slot `(c, t)` of device `e`'s receive buffer. -/
def sendOp (e : Dev nD) (c : Fin 8) (t : Fin 5) : Pr F PUnit :=
  Prog.lift (.enqueueDma (accV c) (.remote (Dev.tc e) (recV c t) (.dma (sendS c t))) (.dma (recvS c t))
    (accV_words c) (recV_words c t) ⟨⟨rfl, Or.inl rfl⟩, trivial⟩)

/-- The copy out of slot `c` has left, and the partner's into slot `(c, t)` has arrived. -/
def waitOp (c : Fin 8) (t : Fin 5) : Pr F PUnit := do
  Prog.lift (.waitDma2 (sendS c t) (recV c t) (accV c) (recV_words c t) (accV_words c))
  Prog.lift (.waitDma2 (recvS c t) (accV c) (recV c t) (accV_words c) (recV_words c t))

/-- The arrival added to the slot. -/
def mixOp (c : Fin 8) (t : Fin 5) : Pr F PUnit := do
  let v ← loadAcc c
  let w ← loadRec c t
  let _ ← loadAcc c
  storeAcc c (addIn v w)

/-- The last arrival added, into the result. -/
def outOp (c : Fin 8) : Pr F PUnit := do
  let v ← loadAcc c
  let w ← loadRec c 4
  let _ ← loadOut c
  storeOut c (addIn v w)

/-- One program after another, along a list. -/
def each {α : Type} : List α → (α → Pr F PUnit) → Pr F PUnit
  | [], _ => pure ⟨⟩
  | a :: l, f => f a >>= fun _ => each l f

/-! ## The partners, as the printed text names them -/

/-- Whom the barrier is signalled to, in order. -/
def sigTo (d : Dev nD) : List (Dev nD) :=
  [⟨k0_dev1 d, k0_dev1_lt d⟩, ⟨k0_dev2 d, k0_dev2_lt d⟩, ⟨k0_dev3 d, k0_dev3_lt d⟩, ⟨k0_dev4 d, k0_dev4_lt d⟩, ⟨k0_dev5 d, k0_dev5_lt d⟩]

/-- Whom chunk 0 goes to first, -/
def sendTo₀ (d : Dev nD) : Dev nD := ⟨k0_dev6 d, k0_dev6_lt d⟩
/-- whom the other chunks go to first, -/
def sendTo₁ (d : Dev nD) : List (Fin 8 × Dev nD) :=
  [(1, ⟨k0_dev7 d, k0_dev7_lt d⟩), (2, ⟨k0_dev8 d, k0_dev8_lt d⟩), (3, ⟨k0_dev9 d, k0_dev9_lt d⟩), (4, ⟨k0_dev10 d, k0_dev10_lt d⟩),
   (5, ⟨k0_dev11 d, k0_dev11_lt d⟩), (6, ⟨k0_dev12 d, k0_dev12_lt d⟩), (7, ⟨k0_dev13 d, k0_dev13_lt d⟩)]
/-- and whom the chunks go to after each of the first four steps. -/
def sendTo₂ (d : Dev nD) : List (Fin 4 × List (Fin 8 × Dev nD)) :=
  [(0, [(0, ⟨k0_dev14 d, k0_dev14_lt d⟩), (1, ⟨k0_dev15 d, k0_dev15_lt d⟩), (2, ⟨k0_dev16 d, k0_dev16_lt d⟩), (3, ⟨k0_dev17 d, k0_dev17_lt d⟩),
        (4, ⟨k0_dev18 d, k0_dev18_lt d⟩), (5, ⟨k0_dev19 d, k0_dev19_lt d⟩), (6, ⟨k0_dev20 d, k0_dev20_lt d⟩), (7, ⟨k0_dev21 d, k0_dev21_lt d⟩)]),
   (1, [(0, ⟨k0_dev22 d, k0_dev22_lt d⟩), (1, ⟨k0_dev23 d, k0_dev23_lt d⟩), (2, ⟨k0_dev24 d, k0_dev24_lt d⟩), (3, ⟨k0_dev25 d, k0_dev25_lt d⟩),
        (4, ⟨k0_dev26 d, k0_dev26_lt d⟩), (5, ⟨k0_dev27 d, k0_dev27_lt d⟩), (6, ⟨k0_dev28 d, k0_dev28_lt d⟩), (7, ⟨k0_dev29 d, k0_dev29_lt d⟩)]),
   (2, [(0, ⟨k0_dev30 d, k0_dev30_lt d⟩), (1, ⟨k0_dev31 d, k0_dev31_lt d⟩), (2, ⟨k0_dev32 d, k0_dev32_lt d⟩), (3, ⟨k0_dev33 d, k0_dev33_lt d⟩),
        (4, ⟨k0_dev34 d, k0_dev34_lt d⟩), (5, ⟨k0_dev35 d, k0_dev35_lt d⟩), (6, ⟨k0_dev36 d, k0_dev36_lt d⟩), (7, ⟨k0_dev37 d, k0_dev37_lt d⟩)]),
   (3, [(0, ⟨k0_dev38 d, k0_dev38_lt d⟩), (1, ⟨k0_dev39 d, k0_dev39_lt d⟩), (2, ⟨k0_dev40 d, k0_dev40_lt d⟩), (3, ⟨k0_dev41 d, k0_dev41_lt d⟩),
        (4, ⟨k0_dev42 d, k0_dev42_lt d⟩), (5, ⟨k0_dev43 d, k0_dev43_lt d⟩), (6, ⟨k0_dev44 d, k0_dev44_lt d⟩), (7, ⟨k0_dev45 d, k0_dev45_lt d⟩)])]

/-! ## The body -/

/-- The chunks, in order, and all but the first. -/
abbrev chunks : List (Fin 8) := [0, 1, 2, 3, 4, 5, 6, 7]
/-- The chunks after the first. -/
abbrev chunks' : List (Fin 8) := [1, 2, 3, 4, 5, 6, 7]

/-- The exchange: four steps that add and send on, and the fifth, that stores the sums. -/
def exchange (to₂ : List (Fin 4 × List (Fin 8 × Dev nD))) : Pr F PUnit := do
  each to₂ fun p => each p.2 fun q => do
    waitOp q.1 p.1.castSucc
    mixOp q.1 p.1.castSucc
    sendOp q.2 q.1 p.1.succ
  each chunks fun c => do
    waitOp c 4
    outOp c

/-- The whole body, over the partners it is given. -/
def bodyForm (bar : Dev nD → List (Dev nD)) (to₀ : Dev nD → Dev nD) (to₁ : Dev nD → List (Fin 8 × Dev nD))
    (to₂ : Dev nD → List (Fin 4 × List (Fin 8 × Dev nD))) : Pr F PUnit := do
  let d ← Prog.lift .deviceId
  each (bar d) fun e => semSignalWord e barS 1#32
  let x ← Prog.lift (.load xM (Rect.unit (s := S256x256) ![0, 0] S256x256.size inb_S256x256_S256x256_0_0).toLoadRect (View.loadsAt_vmem h_S256x256))
  let w1 ← Prog.lift (.load w1M (Rect.unit (s := S256x512) ![0, 0] S256x512.size inb_S256x512_S256x512_0_0).toLoadRect (View.loadsAt_vmem h_S256x512))
  let w2 ← Prog.lift (.load w2M (Rect.unit (s := S512x256) ![0, 0] S512x256.size inb_S512x256_S512x256_0_0).toLoadRect (View.loadsAt_vmem h_S512x256))
  firstOp x w1 w2 0
  semWaitWord barS 5#32
  sendOp (to₀ d) 0 0
  each (to₁ d) fun q => do
    firstOp x w1 w2 q.1
    sendOp q.2 q.1 0
  exchange (to₂ d)

/-- The printed body, at the buffers and semaphores the launch gives it. -/
abbrev theBody : Pr F PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _) cc0_scratch2 cc0_scratch3

set_option maxRecDepth 65536 in
/-- The printed body is the uniform program, at the partners the text names. -/
theorem body_form : theBody (F := F) = bodyForm sigTo sendTo₀ sendTo₁ sendTo₂ := by
  chain_rfl

end Cert.AllReduce

end
-- ==== Proof.Mesh.lean ====
/-
The mesh as the exchange uses it.

Device `d` sits at `(x, y, z)` with `z = d / 8`, `y = d % 8 / 2` and `x = (d % 8 + y) % 2`; its five partners flip one bit of
one coordinate each. A chunk `c` meets partner `t + c` (mod 5) at step `t`, so after five steps it has met all five.
-/
module

public import proofs.«01_k».proof.Proof.Form

@[expose] public section

set_option maxRecDepth 16384

noncomputable section

namespace Cert.AllReduce

open Cert.KernelIdeal Cert.KernelIdeal.Gen
open Idealize.ShloMosaic Idealize.ShloMosaic.TcCoe
open Idealize.SL.Sem

variable {F : FTy → Type} [FloatOps F]

/-- The device at `(x, y, z)`. -/
def idxOf (x y z : Nat) : Nat := 8 * (z % 4) + 2 * (y % 4) + (x + y) % 2

/-- A device's number, from its coordinates, is below the number of devices. -/
theorem idxOf_lt (x y z : Nat) : idxOf x y z < nD := by
  unfold idxOf
  have h : nD = 32 := rfl
  omega

/-- The flip of one bit of one coordinate. -/
def flipIdx : Nat → Nat → Nat → Nat → Nat
  | 0, x, y, z => idxOf (x + 1) y z
  | 1, x, y, z => idxOf x (y ^^^ 1) z
  | 2, x, y, z => idxOf x y (z ^^^ 1)
  | 3, x, y, z => idxOf x (y ^^^ 2) z
  | _, x, y, z => idxOf x y (z ^^^ 2)

/-- So is its partner's. -/
theorem flipIdx_lt (s x y z : Nat) : flipIdx s x y z < nD := by
  unfold flipIdx; split <;> exact idxOf_lt _ _ _

/-- Device `d`'s partner number `s`. -/
def peer (s : Fin 5) (d : Dev nD) : Dev nD :=
  ⟨flipIdx s.val ((d.val % 8 + d.val % 8 / 2) % 2) (d.val % 8 / 2) (d.val / 8), flipIdx_lt _ _ _ _⟩

set_option maxRecDepth 65536 in
/-- Partners are mutual. -/
theorem peer_peer (s : Fin 5) (d : Dev nD) : peer s (peer s d) = d := by revert s d; decide +kernel

/-- Partner number `s`, as a permutation of the devices. -/
def swap (s : Fin 5) : Dev nD ≃ Dev nD := ⟨peer s, peer s, peer_peer s, peer_peer s⟩

/-- The partner a chunk starts with, -/
def ph (c : Fin 8) : Fin 5 := ⟨c.val % 5, Nat.mod_lt _ (by decide)⟩
/-- the one chunk `c` of device `d` meets at step `t`, -/
def mate (c : Fin 8) (t : Fin 5) (d : Dev nD) : Dev nD := peer (t + ph c) d
/-- and the step at which chunk `c` meets partner `s`. -/
def stepOf (c : Fin 8) (s : Fin 5) : Fin 5 := s - ph c

/-- The device met at a step meets this one. -/
theorem mate_mate (c : Fin 8) (t : Fin 5) (d : Dev nD) : mate c t (mate c t d) = d := peer_peer _ _

/-- The step at which a chunk meets a partner names that partner, -/
theorem stepOf_add (c : Fin 8) (s : Fin 5) : stepOf c s + ph c = s := by revert c s; decide
/-- and the partner named by a step is met at that step. -/
theorem stepOf_of_add (c : Fin 8) (t : Fin 5) : stepOf c (t + ph c) = t := by revert c t; decide

/-- At that step the device met is that partner. -/
theorem mate_stepOf (c : Fin 8) (s : Fin 5) (d : Dev nD) : mate c (stepOf c s) d = peer s d := by
  unfold mate; rw [stepOf_add]

/-- The steps of a chunk and the partners, matched. -/
def stepEquiv (c : Fin 8) : Fin 5 ≃ Fin 5 := ⟨fun t => t + ph c, stepOf c, stepOf_of_add c, stepOf_add c⟩

/-! ## The partners of the text are these -/

/-- The partners in order, -/
abbrev partners : List (Fin 5) := [0, 1, 2, 3, 4]
/-- the steps after which a chunk is sent on. -/
abbrev steps : List (Fin 4) := [0, 1, 2, 3]

set_option maxRecDepth 65536 in
/-- The devices that are signalled are the five partners. -/
theorem sigTo_eq : sigTo = fun d => partners.map fun s => peer s d := by
  refine funext fun d => ?_; revert d; decide +kernel
set_option maxRecDepth 65536 in
/-- The first copy goes to the device chunk 0 meets first, -/
theorem sendTo₀_eq : sendTo₀ = fun d => mate 0 0 d := by
  refine funext fun d => ?_; revert d; decide +kernel
set_option maxRecDepth 65536 in
/-- the other first copies to those the other chunks meet first, -/
theorem sendTo₁_eq : sendTo₁ = fun d => chunks'.map fun c => (c, mate c 0 d) := by
  refine funext fun d => ?_; revert d; decide +kernel
set_option maxRecDepth 65536 in
/-- and the copies of the later steps to those the chunks meet then. -/
theorem sendTo₂_eq : sendTo₂ = fun d => steps.map fun t => (t, chunks.map fun c => (c, mate c t.succ d)) := by
  refine funext fun d => ?_; revert d; decide +kernel

/-- Running a program along a mapped list. -/
theorem each_map {α β : Type} (g : α → β) (l : List α) (f : β → Pr F PUnit) : each (l.map g) f = each l fun a => f (g a) := by
  induction l with
  | nil => rfl
  | cons a l ih => rw [List.map_cons, each, each, ih]

/-- The body over the mesh's partners. -/
def meshBody : Pr F PUnit := do
  let d ← Prog.lift .deviceId
  each partners fun s => semSignalWord (peer s d) barS 1#32
  let x ← Prog.lift (.load xM (Rect.unit (s := S256x256) ![0, 0] S256x256.size inb_S256x256_S256x256_0_0).toLoadRect (View.loadsAt_vmem h_S256x256))
  let w1 ← Prog.lift (.load w1M (Rect.unit (s := S256x512) ![0, 0] S256x512.size inb_S256x512_S256x512_0_0).toLoadRect (View.loadsAt_vmem h_S256x512))
  let w2 ← Prog.lift (.load w2M (Rect.unit (s := S512x256) ![0, 0] S512x256.size inb_S512x256_S512x256_0_0).toLoadRect (View.loadsAt_vmem h_S512x256))
  firstOp x w1 w2 0
  semWaitWord barS 5#32
  sendOp (mate 0 0 d) 0 0
  each chunks' fun c => do
    firstOp x w1 w2 c
    sendOp (mate c 0 d) c 0
  each steps fun t => each chunks fun c => do
    waitOp c t.castSucc
    mixOp c t.castSucc
    sendOp (mate c t.succ d) c t.succ
  each chunks fun c => do
    waitOp c 4
    outOp c

/-- The printed body is the program over the mesh's partners. -/
theorem body_mesh : theBody (F := F) = meshBody := by
  rw [body_form, sigTo_eq, sendTo₀_eq, sendTo₁_eq, sendTo₂_eq]
  unfold bodyForm meshBody exchange
  simp only [each_map]

end Cert.AllReduce

end
-- ==== Proof.Slots.lean ====
/-
The buffers in pieces.

The accumulator is eight slots, the receive buffer forty, the staged result eight blocks of 32 rows. Each piece is held by the
block it reads as; the pieces of a buffer come from the buffer and make it again.
-/
module

public import proofs.«01_k».proof.Proof.Mesh
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the exchange's cells; a cell's round has up to five duties. -/
abbrev UB : Type := URounds (GSem nD τ sig) (Fin 5)
/-- With the pipeline library's own. -/
abbrev UU : Type := UR sig nD τ × UB

local notation "𝕄" => MT nD τ sig Unit (Elt F) ℕ UU ℕ

/-! ## Reading and writing a piece -/

/-- The rows of the staged result one chunk fills. -/
abbrev outV (c : Fin 8) : Memref sig .tc .vmem S32x256 .bf16 := oM.slice (outR c) (fun _ => rfl)

omit [FloatOps F] in
/-- What a slot of the accumulator reads as. -/
theorem read_acc (c : Fin 8) (f : (cc0_scratch0 : Ref sig .tc).ty.Contents (Elt F)) :
    shapeCast S32x256 (accM.view.readAt (Elt F) (accR c).toLoadRect f) shapeCasts_S1x32x256_S32x256 = (accV c).view.read (Elt F) f := rfl
omit [FloatOps F] in
/-- What a slot of the receive buffer reads as. -/
theorem read_rec (c : Fin 8) (t : Fin 5) (f : (cc0_scratch1 : Ref sig .tc).ty.Contents (Elt F)) :
    shapeCast S32x256 (recM.view.readAt (Elt F) (recR c t).toLoadRect f) shapeCasts_S1x1x32x256_S32x256 = (recV c t).view.read (Elt F) f := rfl

/-- A slot of the accumulator reads as what was stored. -/
theorem read_write_acc (c : Fin 8) (f : (cc0_scratch0 : Ref sig .tc).ty.Contents (Elt F)) (v : FVec F S32x256 .bf16) :
    (accV c).view.read (Elt F) ((accM.access (accR c) : View sig .tc _ _ _).write (Elt F) f (slotOf v) Finset.univ) = v := by
  show shapeCast S32x256 ((accM.access (accR c) : View sig .tc _ _ _).read (Elt F)
    ((accM.access (accR c) : View sig .tc _ _ _).write (Elt F) f (slotOf v) Finset.univ)) shapeCasts_S1x32x256_S32x256 = v
  rw [View.read_write_univ]
  exact shapeCast_shapeCast v _ _

omit [FloatOps F] in
/-- A chunk of result rows reads as what was stored. -/
theorem read_write_out (c : Fin 8) (f : (cc0_stg3_0 : Ref sig .tc).ty.Contents (Elt F)) (v : S32x256.Idx → Elt F .bf16) :
    (outV c).view.read (Elt F) ((oM.access (outR c) : View sig .tc _ _ _).write (Elt F) f v Finset.univ) = v :=
  View.read_write_univ (v := (outV c).view) f v

/-- The sum a chunk is stored as, of what its slot and the landing slot read. -/
theorem addIn_read (c : Fin 8) (t : Fin 5) (f : (cc0_scratch0 : Ref sig .tc).ty.Contents (Elt F)) (g : (cc0_scratch1 : Ref sig .tc).ty.Contents (Elt F)) :
    addIn (accM.view.readAt (Elt F) (accR c).toLoadRect f) (recM.view.readAt (Elt F) (recR c t).toLoadRect g)
      = addf (F := F) (s := S32x256) (φ := .bf16) ((accV c).view.read (Elt F) f) ((recV c t).view.read (Elt F) g) := rfl

/-! ## The pieces' elements -/

/-- The elements of a slot of the accumulator. -/
abbrev accSet (c : Fin 8) : Finset S8x32x256.Idx := (accV c).view.set
abbrev recSet (p : Fin 8 × Fin 5) : Finset S8x5x32x256.Idx := (recV p.1 p.2).view.set
abbrev outSet (c : Fin 8) : Finset S256x256.Idx := (outV c).view.set

/-- The elements of a slot of the accumulator are its rectangle's, -/
theorem acc_set (c : Fin 8) : (accV c).view.set = (accR c).set :=
  (View.set_reshape _ _).trans (View.set_slice_whole _ _)
/-- those of a slot of the receive buffer are its rectangle's, -/
theorem rec_set (c : Fin 8) (t : Fin 5) : (recV c t).view.set = (recR c t).set :=
  (View.set_reshape _ _).trans (View.set_slice_whole _ _)
/-- and those of a chunk of result rows are its rectangle's. -/
theorem out_set (c : Fin 8) : (outV c).view.set = (outR c).set := View.set_slice_whole _ _

/-- Two slots of the accumulator share no element, -/
theorem acc_disj (c c' : Fin 8) (h : c ≠ c') : Disjoint (accSet c) (accSet c') := by
  unfold accSet; rw [acc_set, acc_set, Finset.disjoint_left]
  intro i hi hi'
  have h1 := Rect.mem_set_unit.mp hi 0
  have h2 := Rect.mem_set_unit.mp hi' 0
  simp only [Matrix.cons_val_zero, show S1x32x256.size 0 = 1 from rfl] at h1 h2
  exact h (Fin.ext (by omega))

/-- and the slots make up the accumulator. -/
theorem acc_cover : Finset.univ.biUnion accSet = Finset.univ := by
  ext i
  simp only [Finset.mem_biUnion, Finset.mem_univ, true_and, iff_true]
  refine ⟨⟨(i 0).val, (i 0).isLt⟩, ?_⟩
  unfold accSet; rw [acc_set]
  refine Rect.mem_set_unit.mpr fun a => ?_
  have h1 : (i 1 : Nat) < 32 := (i 1).isLt
  have h2 : (i 2 : Nat) < 256 := (i 2).isLt
  fin_cases a
  · exact ⟨le_refl _, Nat.lt_succ_self _⟩
  · exact ⟨Nat.zero_le _, by show (i 1 : Nat) < 0 + 32; omega⟩
  · exact ⟨Nat.zero_le _, by show (i 2 : Nat) < 0 + 256; omega⟩

/-- Two slots of the receive buffer share no element, -/
theorem rec_disj (p p' : Fin 8 × Fin 5) (h : p ≠ p') : Disjoint (recSet p) (recSet p') := by
  unfold recSet; rw [rec_set, rec_set, Finset.disjoint_left]
  intro i hi hi'
  have h1 := Rect.mem_set_unit.mp hi 0
  have h2 := Rect.mem_set_unit.mp hi' 0
  have h3 := Rect.mem_set_unit.mp hi 1
  have h4 := Rect.mem_set_unit.mp hi' 1
  simp only [Matrix.cons_val_zero, Matrix.cons_val_one, show S1x1x32x256.size 0 = 1 from rfl, show S1x1x32x256.size 1 = 1 from rfl] at h1 h2 h3 h4
  exact h (Prod.ext (Fin.ext (by omega)) (Fin.ext (by omega)))

/-- and the slots make up the receive buffer. -/
theorem rec_cover : Finset.univ.biUnion recSet = Finset.univ := by
  ext i
  simp only [Finset.mem_biUnion, Finset.mem_univ, true_and, iff_true]
  refine ⟨(⟨(i 0).val, (i 0).isLt⟩, ⟨(i 1).val, (i 1).isLt⟩), ?_⟩
  unfold recSet; rw [rec_set]
  refine Rect.mem_set_unit.mpr fun a => ?_
  have h1 : (i 2 : Nat) < 32 := (i 2).isLt
  have h2 : (i 3 : Nat) < 256 := (i 3).isLt
  fin_cases a
  · exact ⟨le_refl _, Nat.lt_succ_self _⟩
  · exact ⟨le_refl _, Nat.lt_succ_self _⟩
  · exact ⟨Nat.zero_le _, by show (i 2 : Nat) < 0 + 32; omega⟩
  · exact ⟨Nat.zero_le _, by show (i 3 : Nat) < 0 + 256; omega⟩

/-- Two chunks of result rows share no element, -/
theorem out_disj (c c' : Fin 8) (h : c ≠ c') : Disjoint (outSet c) (outSet c') := by
  unfold outSet; rw [out_set, out_set, Finset.disjoint_left]
  intro i hi hi'
  have h1 := Rect.mem_set_unit.mp hi 0
  have h2 := Rect.mem_set_unit.mp hi' 0
  simp only [Matrix.cons_val_zero, show S32x256.size 0 = 32 from rfl] at h1 h2
  exact h (Fin.ext (by omega))

/-- and the chunks make up the result. -/
theorem out_cover : Finset.univ.biUnion outSet = Finset.univ := by
  ext i
  simp only [Finset.mem_biUnion, Finset.mem_univ, true_and, iff_true]
  have h0 : (i 0 : Nat) < 256 := (i 0).isLt
  have h1 : (i 1 : Nat) < 256 := (i 1).isLt
  refine ⟨⟨(i 0).val / 32, by omega⟩, ?_⟩
  unfold outSet; rw [out_set]
  refine Rect.mem_set_unit.mpr fun a => ?_
  fin_cases a
  · show 32 * ((i 0).val / 32) ≤ (i 0).val ∧ (i 0).val < 32 * ((i 0).val / 32) + 32
    omega
  · exact ⟨Nat.zero_le _, by show (i 1 : Nat) < 0 + 256; omega⟩

/-! ## The pieces held -/

/-- Device `d`'s accumulator slot `c`, its landing slot `(c, t)`, its chunk `c` of result rows, held at a block. -/
def accPts (d : Dev nD) (c : Fin 8) (X : S32x256.Idx → Elt F .bf16) : sProp 𝕄 := owns (d : Thread nD τ) (accV c) fullShare X
def recPts (d : Dev nD) (c : Fin 8) (t : Fin 5) (X : S32x256.Idx → Elt F .bf16) : sProp 𝕄 := owns (d : Thread nD τ) (recV c t) fullShare X
def outPts (d : Dev nD) (c : Fin 8) (X : S32x256.Idx → Elt F .bf16) : sProp 𝕄 := owns (d : Thread nD τ) (outV c) fullShare X
/-- The same at any block. -/
def accAny (d : Dev nD) (c : Fin 8) : sProp 𝕄 := iprop(∃ X, accPts d c X)
def recAny (d : Dev nD) (c : Fin 8) (t : Fin 5) : sProp 𝕄 := iprop(∃ X, recPts d c t X)
def outAny (d : Dev nD) (c : Fin 8) : sProp 𝕄 := iprop(∃ X, outPts d c X)

omit [FloatOps F] in
/-- Owning a slot of the accumulator can be kept in an invariant. -/
instance accPts_storable (d : Dev nD) (c : Fin 8) (X) : BI.Storable (upEmb : UEmb _ 𝕄) (accPts (F := F) d c X) := by unfold accPts; infer_instance
omit [FloatOps F] in
/-- So can owning a slot of the receive buffer, -/
instance recPts_storable (d : Dev nD) (c : Fin 8) (t : Fin 5) (X) : BI.Storable (upEmb : UEmb _ 𝕄) (recPts (F := F) d c t X) := by unfold recPts; infer_instance
omit [FloatOps F] in
/-- at any contents. -/
instance recAny_storable (d : Dev nD) (c : Fin 8) (t : Fin 5) : BI.Storable (upEmb : UEmb _ 𝕄) (recAny (F := F) d c t) := by unfold recAny; infer_instance

omit [FloatOps F] in
/-- The accumulator splits into its slots. -/
theorem acc_split (d : Dev nD) (f : Buf (Elt F) ((d : Thread nD τ).loc cc0_scratch0)) :
    (((d : Thread nD τ).loc cc0_scratch0) ↦{fullShare} f : sProp 𝕄) ⊢ bigSep Finset.univ fun c : Fin 8 => accAny d c := by
  rw [Ring.pointsTo_blocks (ℓ := (d : Thread nD τ).loc cc0_scratch0) accSet acc_disj acc_cover f]
  refine bigSep_mono fun c _ => show _ ⊢ accAny d c from ?_
  unfold accAny accPts owns
  iintro H
  iexists _; iexists f
  isplitr; · (ipureintro; rfl)
  iexact H

omit [FloatOps F] in
/-- The receive buffer splits into its slots. -/
theorem rec_split (d : Dev nD) (f : Buf (Elt F) ((d : Thread nD τ).loc cc0_scratch1)) :
    (((d : Thread nD τ).loc cc0_scratch1) ↦{fullShare} f : sProp 𝕄) ⊢ bigSep Finset.univ fun p : Fin 8 × Fin 5 => recAny d p.1 p.2 := by
  rw [Ring.pointsTo_blocks (ℓ := (d : Thread nD τ).loc cc0_scratch1) recSet rec_disj rec_cover f]
  refine bigSep_mono fun p _ => show _ ⊢ recAny d p.1 p.2 from ?_
  unfold recAny recPts owns
  iintro H
  iexists _; iexists f
  isplitr; · (ipureintro; rfl)
  iexact H

omit [FloatOps F] in
/-- The result splits into its chunks. -/
theorem out_split (d : Dev nD) (f : Buf (Elt F) ((d : Thread nD τ).loc cc0_stg3_0)) :
    (((d : Thread nD τ).loc cc0_stg3_0) ↦{fullShare} f : sProp 𝕄) ⊢ bigSep Finset.univ fun c : Fin 8 => outAny d c := by
  rw [Ring.pointsTo_blocks (ℓ := (d : Thread nD τ).loc cc0_stg3_0) outSet out_disj out_cover f]
  refine bigSep_mono fun c _ => show _ ⊢ outAny d c from ?_
  unfold outAny outPts owns
  iintro H
  iexists _; iexists f
  isplitr; · (ipureintro; rfl)
  iexact H

omit [FloatOps F] in
/-- The accumulator's slots join to the accumulator. -/
theorem acc_join (d : Dev nD) (f₀ : Buf (Elt F) ((d : Thread nD τ).loc cc0_scratch0)) :
    bigSep Finset.univ (fun c : Fin 8 => accAny d c) ⊢ (iprop(∃ f, ((d : Thread nD τ).loc cc0_scratch0) ↦{fullShare} f) : sProp 𝕄) := by
  refine (bigSep_mono fun c _ => show accAny d c ⊢ iprop(∃ f, ((d : Thread nD τ).loc cc0_scratch0) ↦[accSet c]{fullShare} f) from ?_).trans
    (Ring.pointsTo_blocks_join_exists (ℓ := (d : Thread nD τ).loc cc0_scratch0)
    accSet acc_disj acc_cover f₀)
  unfold accAny accPts owns
  iintro ⟨%X, %f, -, H⟩
  iexists f; iexact H

omit [FloatOps F] in
/-- The receive buffer's slots join to the receive buffer. -/
theorem rec_join (d : Dev nD) (f₀ : Buf (Elt F) ((d : Thread nD τ).loc cc0_scratch1)) :
    bigSep Finset.univ (fun p : Fin 8 × Fin 5 => recAny d p.1 p.2) ⊢ (iprop(∃ f, ((d : Thread nD τ).loc cc0_scratch1) ↦{fullShare} f) : sProp 𝕄) := by
  refine (bigSep_mono fun p _ => show recAny d p.1 p.2 ⊢ iprop(∃ f, ((d : Thread nD τ).loc cc0_scratch1) ↦[recSet p]{fullShare} f) from ?_).trans
    (Ring.pointsTo_blocks_join_exists (ℓ := (d : Thread nD τ).loc cc0_scratch1)
    recSet rec_disj rec_cover f₀)
  unfold recAny recPts owns
  iintro ⟨%X, %f, -, H⟩
  iexists f; iexact H

/-- Eight blocks of 32 rows, one under the other. -/
def gather (Y : Fin 8 → S32x256.Idx → Elt F .bf16) : (cc0_stg3_0 : Ref sig .tc).ty.Contents (Elt F) :=
  fun i => Y ⟨(i 0).val / 32, by have h : (i 0 : Nat) < 256 := (i 0).isLt; omega⟩
    (fun a => match a with
      | ⟨0, _⟩ => ⟨(i 0).val % 32, Nat.mod_lt _ (by decide)⟩
      | ⟨1, _⟩ => ⟨(i 1).val, (i 1).isLt⟩)

omit [FloatOps F] in
/-- A result whose chunks read as `Y` is the blocks `Y`, one under the other. -/
theorem gather_of_reads (Y : Fin 8 → S32x256.Idx → Elt F .bf16) (g : (cc0_stg3_0 : Ref sig .tc).ty.Contents (Elt F))
    (h : ∀ c, (outV c).view.read (Elt F) g = Y c) : g = gather Y := by
  funext i
  have h0 : (i 0 : Nat) < 256 := (i 0).isLt
  unfold gather
  rw [← h]
  refine congrArg g (funext fun a => Fin.ext ?_)
  fin_cases a
  · show (i 0).val = 32 * ((i 0).val / 32) + 1 * ((i 0).val % 32)
    omega
  · show (i 1).val = 0 + 1 * (i 1).val
    omega

omit [FloatOps F] in
/-- The result's chunks join to the gathered result. -/
theorem out_join (d : Dev nD) (Y : Fin 8 → S32x256.Idx → Elt F .bf16) :
    bigSep Finset.univ (fun c : Fin 8 => outPts d c (Y c)) ⊢ (((d : Thread nD τ).loc cc0_stg3_0) ↦{fullShare} gather Y : sProp 𝕄) := by
  have : Nonempty (Buf (Elt F) ((d : Thread nD τ).loc cc0_stg3_0)) := ⟨gather Y⟩
  unfold outPts owns
  refine (Idealize.SL.BI.bigSep_exists_pi Finset.univ (fun (c : Fin 8) (f : Buf (Elt F) ((d : Thread nD τ).loc cc0_stg3_0)) =>
    iprop(⌜(outV c).view.read (Elt F) f = Y c⌝ ∗ (((d : Thread nD τ).loc cc0_stg3_0) ↦[(outV c).view.set]{fullShare} f) : sProp 𝕄))).trans ?_
  iintro ⟨%fs, H⟩
  ihave H' := (bigSep_pure_sep Finset.univ (fun c : Fin 8 => (outV c).view.read (Elt F) (fs c) = Y c)
    fun c => (((d : Thread nD τ).loc cc0_stg3_0) ↦[outSet c]{fullShare} fs c : sProp 𝕄)) $$ H
  icases H' with ⟨%hp, H⟩
  ihave H' := (pointsTo_biUnion_join Finset.univ outSet fs (gather Y) (fun c _ c' _ h => out_disj c c' h)) $$ H
  icases H' with ⟨%g, %hg, H⟩
  rw [out_cover]
  have hgY : g = gather Y := gather_of_reads Y g fun c => by
    rw [← hp c (Finset.mem_univ c)]
    exact View.read_congr fun i hi => hg c (Finset.mem_univ c) i hi
  subst hgY
  iexact H

end Cert.AllReduce

end
-- ==== Proof.Schedule.lean ====
/-
The protocol of the exchange.

Every device has a barrier cell and, for each chunk `c` and step `t`, a send cell and a receive cell. Each cell has one round.

* The barrier cell's round has five duties of one unit, one a partner. Partner `s` of `d` pays duty `s` of `d`'s barrier, and
  hands over the landing slots in its own receive buffer that `d` will fill: slot `(c, t)` for the chunks and steps at which
  the two meet.
* The send cell `(c, t)` is paid by the device's own copy when it has left, and hands the accumulator's slot `c` back.
* The receive cell `(c, t)` is paid by the copy of the device met at `(c, t)`, and hands over the landing slot with that
  device's block in it.

The blocks: `A c 0 d` is chunk `c` of device `d`'s own product, and each step adds the block of the device met.
-/
module

public import proofs.«01_k».proof.Proof.Slots

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Where the cells' rounds live in the resources. -/
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The blocks -/

/-- Device `d`'s staged operands. -/
def xAt (d : Dev nD) : (cc0_stg0_0 : Ref sig .tc).ty.Contents (Elt F) :=
  (win0_0.blk (0 : Fin 1)).view.read (Elt F) ((s₀ m ρ).mem ((d : Thread nD τ).loc main_arg0))
/-- Device `d`'s block of the first weights. -/
def w1At (d : Dev nD) : (cc0_stg1_0 : Ref sig .tc).ty.Contents (Elt F) :=
  (win0_1.blk (0 : Fin 1)).view.read (Elt F) ((s₀ m ρ).mem ((d : Thread nD τ).loc main_arg1))
/-- Device `d`'s block of the second weights. -/
def w2At (d : Dev nD) : (cc0_stg2_0 : Ref sig .tc).ty.Contents (Elt F) :=
  (win0_2.blk (0 : Fin 1)).view.read (Elt F) ((s₀ m ρ).mem ((d : Thread nD τ).loc main_arg2))

/-- Chunk `c` of device `d` after `n` steps. -/
def A (c : Fin 8) : ℕ → Dev nD → FVec F S32x256 .bf16
  | 0, d => product c (xAt m ρ d) (w1At m ρ d) (w2At m ρ d)
  | n + 1, d => addf (A c n d) (A c n (mate c (Fin.ofNat 5 n) d))

/-- A step adds the block of the device met. -/
theorem A_succ (c : Fin 8) (t : Fin 5) (d : Dev nD) : A m ρ c (t.val + 1) d = addf (A m ρ c t.val d) (A m ρ c t.val (mate c t d)) := by
  show addf (A m ρ c t.val d) (A m ρ c t.val (mate c (Fin.ofNat 5 t.val) d)) = _
  rw [Fin.ofNat_val_eq_self]

/-- The result on device `d`: the chunks after the five steps. -/
def outAt (d : Dev nD) : (cc0_stg3_0 : Ref sig .tc).ty.Contents (Elt F) := gather fun c => A m ρ c 5 d

/-! ## The cells -/

/-- What a semaphore is for. -/
inductive Role
  | bar
  | send (c : Fin 8) (t : Fin 5)
  | recv (c : Fin 8) (t : Fin 5)
  | other
  deriving DecidableEq

/-- A number below 40 as a chunk and a step. -/
def chunkOf (n : Nat) (h : n < 40) : Fin 8 := ⟨n / 5, by omega⟩
/-- The step of a semaphore's number. -/
def stepNo (n : Nat) : Fin 5 := ⟨n % 5, Nat.mod_lt _ (by decide)⟩

/-- Each semaphore's role. -/
def role : SemLoc sig → Role
  | .reg q => if q = barS then .bar else .other
  | .dma q =>
    if h : 4 ≤ q.val ∧ q.val - 4 < 40 then .send (chunkOf (q.val - 4) h.2) (stepNo (q.val - 4))
    else if h : 44 ≤ q.val ∧ q.val - 44 < 40 then .recv (chunkOf (q.val - 44) h.2) (stepNo (q.val - 44))
    else .other

/-- The barrier semaphore's role, -/
theorem role_bar : role (.reg barS) = .bar := by decide
/-- a send semaphore's, -/
theorem role_send (c : Fin 8) (t : Fin 5) : role (.dma (sendS c t)) = .send c t := by revert c t; decide +kernel
/-- and a receive semaphore's. -/
theorem role_recv (c : Fin 8) (t : Fin 5) : role (.dma (recvS c t)) = .recv c t := by revert c t; decide +kernel

/-- Device `d`'s barrier cell. -/
abbrev barCell (d : Dev nD) : GSem nD τ sig := ((d : Thread nD τ), .reg barS)
abbrev sendCell (d : Dev nD) (c : Fin 8) (t : Fin 5) : GSem nD τ sig := ((d : Thread nD τ), .dma (sendS c t))
abbrev recvCell (d : Dev nD) (c : Fin 8) (t : Fin 5) : GSem nD τ sig := ((d : Thread nD τ), .dma (recvS c t))

/-- What one copy credits. -/
abbrev N : ℕ := (recV 0 0).view.dmaCredit
/-- A copy pays something: -/
theorem N_pos : 0 < N := View.dmaCredit_pos _ (by decide)
/-- the amount a slot of the accumulator pays on leaving -/
theorem acc_credit (c : Fin 8) : (accV c).view.dmaCredit = N := rfl
/-- and the amount it pays on arriving. -/
theorem rec_credit (c : Fin 8) (t : Fin 5) : (recV c t).view.dmaCredit = N := rfl

/-! ## The schedule -/

/-- What partner `s` of `d` hands `d` at the barrier: its landing slots that `d` fills. -/
def barPay (d : Dev nD) (s : Fin 5) : sProp 𝕄 := bigSep Finset.univ fun c : Fin 8 => recAny (peer s d) c (stepOf c s)

omit [FloatOps F] in
/-- What a partner's signal hands over can be kept in an invariant. -/
instance barPay_storable (d : Dev nD) (s : Fin 5) : BI.Storable (upEmb : UEmb _ 𝕄) (barPay (F := F) d s) := by unfold barPay; infer_instance

/-- The duties of a cell's round. -/
def roleDuties : Role → Finset (Fin 5)
  | .bar => Finset.univ
  | .send _ _ => {0}
  | .recv _ _ => {0}
  | .other => ∅
/-- The amount of one duty. -/
def roleAmount : Role → ℕ
  | .bar => 1
  | _ => N
/-- What one duty hands over. -/
def rolePay (d : Dev nD) (s : Fin 5) : Role → sProp 𝕄
  | .bar => barPay d s
  | .send c t => accPts d c (A m ρ c t.val d)
  | .recv c t => recPts d c t (A m ρ c t.val (mate c t d))
  | .other => iprop(emp)

/-- What a duty hands over can be kept in an invariant. -/
instance rolePay_storable (d : Dev nD) (s : Fin 5) (k : Role) : BI.Storable (upEmb : UEmb _ 𝕄) (rolePay m ρ d s k) := by
  cases k <;> dsimp only [rolePay] <;> infer_instance

/-- Every duty pays something. -/
theorem roleAmount_pos (k : Role) : 0 < roleAmount k := by
  cases k
  · exact Nat.one_pos
  all_goals exact N_pos

/-- The schedule of all cells: one round each. -/
def sched : Rounds.Schedule (GSem nD τ sig) (Fin 5) 𝕄 where
  duties g r := if r = 0 ∧ g.1.2 = .tc then roleDuties (role g.2) else ∅
  unitless _ := False
  amount g _ _ := roleAmount (role g.2)
  payload g _ s := rolePay m ρ g.1.1 s (role g.2)
  amount_pos g _ _ _ := roleAmount_pos _

/-- What the schedule hands over can be kept in an invariant. -/
instance sched_payload_storable (g : GSem nD τ sig) (r : ℕ) (s : Fin 5) :
    BI.Storable (upEmb : UEmb _ 𝕄) ((sched (F := F) m ρ).payload g r s) :=
  rolePay_storable m ρ g.1.1 s (role g.2)

section Sched
variable (d : Dev nD) (c : Fin 8) (t : Fin 5)

/-- The barrier's duties are the five partners', -/
theorem duties_bar : (sched (F := F) m ρ).duties (barCell d) 0 = Finset.univ := by
  dsimp only [sched]; rw [if_pos ⟨rfl, rfl⟩, role_bar]; rfl
/-- a send cell has one duty, -/
theorem duties_send : (sched (F := F) m ρ).duties (sendCell d c t) 0 = {0} := by
  dsimp only [sched]; rw [if_pos ⟨rfl, rfl⟩, role_send]; rfl
/-- a receive cell has one duty, -/
theorem duties_recv : (sched (F := F) m ρ).duties (recvCell d c t) 0 = {0} := by
  dsimp only [sched]; rw [if_pos ⟨rfl, rfl⟩, role_recv]; rfl
/-- and no cell has a later round. -/
theorem duties_later (g : GSem nD τ sig) : ∀ r, 1 ≤ r → (sched (F := F) m ρ).duties g r = ∅ :=
  fun r hr => by dsimp only [sched]; rw [if_neg fun h => by omega]

/-- A barrier duty is one unit; -/
theorem amount_bar (s : Fin 5) : (sched (F := F) m ρ).amount (barCell d) 0 s = 1 := by
  dsimp only [sched]; rw [role_bar]; rfl
/-- a send cell's duty is the copy's amount, -/
theorem amount_send (s : Fin 5) : (sched (F := F) m ρ).amount (sendCell d c t) 0 s = N := by
  dsimp only [sched]; rw [role_send]; rfl
/-- and so is a receive cell's. -/
theorem amount_recv (s : Fin 5) : (sched (F := F) m ρ).amount (recvCell d c t) 0 s = N := by
  dsimp only [sched]; rw [role_recv]; rfl

/-- A barrier cell collects five units, -/
theorem expect_bar : (sched (F := F) m ρ).expect (barCell d) 0 = 5 := by
  unfold Schedule.expect Schedule.amountOf
  rw [duties_bar, Finset.sum_congr rfl fun s _ => amount_bar m ρ d s, Finset.sum_const, Finset.card_univ, Fintype.card_fin, smul_eq_mul]
/-- a send cell the copy's amount, -/
theorem expect_send : (sched (F := F) m ρ).expect (sendCell d c t) 0 = N := by
  unfold Schedule.expect Schedule.amountOf; rw [duties_send, Finset.sum_singleton, amount_send]
/-- and so does a receive cell. -/
theorem expect_recv : (sched (F := F) m ρ).expect (recvCell d c t) 0 = N := by
  unfold Schedule.expect Schedule.amountOf; rw [duties_recv, Finset.sum_singleton, amount_recv]

/-- A barrier duty hands over the landing slots at the partner, -/
theorem payload_bar (s : Fin 5) : (sched (F := F) m ρ).payload (barCell d) 0 s = barPay d s := by
  dsimp only [sched]; rw [role_bar]; rfl
/-- a send duty the accumulator's slot, -/
theorem payload_send (s : Fin 5) : (sched (F := F) m ρ).payload (sendCell d c t) 0 s = accPts d c (A m ρ c t.val d) := by
  dsimp only [sched]; rw [role_send]; rfl
/-- and a receive duty the landing slot with the block in it. -/
theorem payload_recv (s : Fin 5) : (sched (F := F) m ρ).payload (recvCell d c t) 0 s = recPts d c t (A m ρ c t.val (mate c t d)) := by
  dsimp only [sched]; rw [role_recv]; rfl

/-- All that a barrier cell hands over, -/
theorem rest_bar : bigSep ((sched (F := F) m ρ).duties (barCell d) 0 \ ∅) (fun s => (sched (F := F) m ρ).payload (barCell d) 0 s)
    = bigSep Finset.univ fun s : Fin 5 => barPay d s := by
  rw [Finset.sdiff_empty, duties_bar]
  exact bigSep_congr fun s _ => payload_bar m ρ d s
/-- all that a send cell hands over, -/
theorem rest_send : bigSep ((sched (F := F) m ρ).duties (sendCell d c t) 0 \ ∅) (fun s => (sched (F := F) m ρ).payload (sendCell d c t) 0 s)
    = accPts d c (A m ρ c t.val d) := by
  rw [Finset.sdiff_empty, duties_send, bigSep_singleton, payload_send]
/-- and all that a receive cell hands over. -/
theorem rest_recv : bigSep ((sched (F := F) m ρ).duties (recvCell d c t) 0 \ ∅) (fun s => (sched (F := F) m ρ).payload (recvCell d c t) 0 s)
    = recPts d c t (A m ρ c t.val (mate c t d)) := by
  rw [Finset.sdiff_empty, duties_recv, bigSep_singleton, payload_recv]

omit [FloatOps F] in
/-- The landing slots the partners hand over are those of the devices a chunk meets. -/
theorem barPay_slots : (bigSep Finset.univ fun s : Fin 5 => (barPay d s : sProp 𝕄))
    = bigSep Finset.univ fun c : Fin 8 => bigSep Finset.univ fun t : Fin 5 => recAny (mate c t d) c t := by
  unfold barPay
  rw [bigSep_univ_comm]
  refine bigSep_congr fun c _ => ?_
  rw [bigSep_univ_equiv (stepEquiv c)]
  refine bigSep_congr fun t _ => ?_
  rw [← mate_stepOf, show stepOf c (stepEquiv c t) = t from stepOf_of_add c t]

omit [FloatOps F] in
/-- A device's own landing slots, dealt to its partners. -/
theorem slots_barPay : (bigSep Finset.univ fun p : Fin 8 × Fin 5 => (recAny d p.1 p.2 : sProp 𝕄))
    = bigSep Finset.univ fun s : Fin 5 => barPay (peer s d) s := by
  unfold barPay
  rw [bigSep_univ_comm, bigSep_univ_prod]
  refine bigSep_congr fun c _ => ?_
  rw [bigSep_univ_equiv (stepEquiv c) (fun s => (recAny (peer s (peer s d)) c (stepOf c s) : sProp 𝕄))]
  refine bigSep_congr fun t _ => ?_
  rw [peer_peer, show stepOf c (stepEquiv c t) = t from stepOf_of_add c t]

end Sched

/-! ## Levels -/

/-- What device `d` owes for its copy `(c, t)`: the credit of the receive cell it lands on. -/
abbrev due (d : Dev nD) (c : Fin 8) (t : Fin 5) : CellTallies nD τ sig Unit := tallyAt (recvCell (mate c t d) c t) () N
/-- What it owes partner `s`'s barrier. -/
abbrev dueBar (d : Dev nD) (s : Fin 5) : CellTallies nD τ sig Unit := tallyAt (barCell (peer s d)) () 1

/-- What device `d` owes at launch. -/
def O₀ (d : Dev nD) : CellTallies nD τ sig Unit :=
  (∑ c : Fin 8, ∑ t : Fin 5, due d c t) + ∑ s : Fin 5, dueBar d s

/-- Every core's cells have a level. -/
def L (g : GSem nD τ sig) : Finset Unit := if g.1.2 = .tc then {()} else ∅
/-- The level of each role. -/
def roleLevel : Role → ℕ
  | .bar => 1
  | .recv _ t => 2 + t.val
  | _ => 0
/-- Staging and send cells at 0, barrier cells at 1, the receive cells of step `t` at `2 + t`. -/
def lv (g : GSem nD τ sig) (_ : Unit) : ℕ := roleLevel (role g.2)

/-- The cells of other threads have none. -/
theorem L_of_ne (g : GSem nD τ sig) (h : g.1.2 ≠ .tc) : L g = ∅ := if_neg h
/-- A core's cells have one level. -/
theorem L_tc (d : Dev nD) (sm : SemLoc sig) : L ((d : Thread nD τ), sm) = {()} := if_pos rfl

/-- All that is owed is owed to cells above level `n`. -/
def Above (n : ℕ) (O : CellTallies nD τ sig Unit) : Prop := ∀ g u, 0 < O g u → u ∈ L g ∧ n < lv g u

/-- Owing nothing is above every level. -/
theorem above_zero (n : ℕ) : Above n 0 := fun g u h => absurd h (Nat.lt_irrefl 0)

/-- Two tallies above a level add to one above it. -/
theorem above_add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0

/-- Tallies above a level sum to one above it. -/
theorem above_sum {n : ℕ} {I : Type} (S : Finset I) (f : I → CellTallies nD τ sig Unit) (h : ∀ i ∈ S, Above n (f i)) : Above n (∑ i ∈ S, f i) := by
  classical
  induction S using Finset.induction_on with
  | empty => exact above_zero n
  | insert a S ha ih =>
    rw [Finset.sum_insert ha]
    exact above_add (h a (Finset.mem_insert_self _ _)) (ih fun i hi => h i (Finset.mem_insert_of_mem hi))

/-- Owing one cell is above every level below the cell's. -/
theorem above_tallyAt {n : ℕ} (d : Dev nD) (sm : SemLoc sig) (k : ℕ) (h : n < roleLevel (role sm)) :
    Above n (tallyAt ((d : Thread nD τ), sm) () k) := by
  intro g u hg
  rw [tallyAt_apply] at hg
  by_cases hgu : g = ((d : Thread nD τ), sm) ∧ u = ()
  · rw [hgu.1, L_tc]; exact ⟨Finset.mem_singleton_self _, h⟩
  · rw [if_neg hgu] at hg; exact absurd hg (Nat.lt_irrefl 0)

/-- The duty at `(c, t)` is above every level below the step's. -/
theorem above_due {n : ℕ} (d : Dev nD) (c : Fin 8) (t : Fin 5) (h : n < 2 + t.val) : Above n (due d c t) :=
  above_tallyAt _ _ _ (by rw [role_recv]; exact h)
/-- A barrier duty is above level 0. -/
theorem above_dueBar (d : Dev nD) (s : Fin 5) : Above 0 (dueBar d s) :=
  above_tallyAt _ _ _ (by rw [role_bar]; decide)

/-- All that a device owes at the start is above level 0. -/
theorem above_O₀ (d : Dev nD) : Above 0 (O₀ d) :=
  above_add (above_sum _ _ fun c _ => above_sum _ _ fun t _ => above_due d c t (by omega)) (above_sum _ _ fun s _ => above_dueBar d s)

omit [FloatOps F] in
/-- A device may wait on a cell below all that it owes. -/
theorem mayWait (d : Dev nD) (sm : SemLoc sig) (O : CellTallies nD τ sig Unit) (h : Above (roleLevel (role sm)) O) :
    (levAts L lv : sProp 𝕄) ⊢ MayWait (d : Thread nD τ) sm () O :=
  MayOwe.of_cut (L := L) (lev := lv) (roleLevel (role sm))
    (fun p hp => by rw [Finset.mem_singleton.mp hp, L_tc]; exact Finset.mem_singleton_self _)
    (fun g u hg => (h g u hg).1)
    (fun p hp => by rw [Finset.mem_singleton.mp hp]; exact le_refl _)
    (fun g u hg => (h g u hg).2)

end Cert.AllReduce

end
-- ==== Proof.Steps.lean ====
/-
One rule for each operation of the body.

`ctx K` is what every rule may use and keep: the invariants of all the cells, that each cell has reached its round, and the
levels. The rest is what one device holds for one chunk and step.
-/
module

public import proofs.«01_k».proof.Proof.Schedule

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## All the cells -/

/-- A device's cells: the barrier's, the send cells, the receive cells. -/
abbrev Slot : Type := Fin 8 × Fin 5
abbrev Kx : Type := Unit ⊕ (Slot ⊕ Slot)

/-- The send and receive semaphores. -/
abbrev osem : Slot ⊕ Slot → SemLoc sig
  | .inl p => .dma (sendS p.1 p.2)
  | .inr p => .dma (recvS p.1 p.2)
/-- The semaphores that have a cell. -/
abbrev csem : Kx → SemLoc sig
  | .inl _ => .reg barS
  | .inr p => osem p
/-- The cell of a device and a semaphore. -/
abbrev kcell (ck : Dev nD × Kx) : GSem nD τ sig := ((ck.1 : Thread nD τ), csem ck.2)

/-- The barrier's index. -/
abbrev ixBar : Kx := .inl ()
abbrev ixSend (c : Fin 8) (t : Fin 5) : Kx := .inr (.inl (c, t))
abbrev ixRecv (c : Fin 8) (t : Fin 5) : Kx := .inr (.inr (c, t))

/-- Every cell's invariant and its round, known to all. -/
def records (K : Dev nD × Kx → ℕ) : sProp 𝕄 :=
  iprop((bigSep Finset.univ fun ck : Dev nD × Kx => cellInv ER (sched m ρ) (K ck) (kcell ck))
    ∗ bigSep Finset.univ fun ck : Dev nD × Kx => reached ER (kcell ck) 0)

/-- The records can be used any number of times. -/
instance records_persistent (K : Dev nD × Kx → ℕ) : BI.Persistent (records m ρ K) := by unfold records; infer_instance

/-- The records and the levels. -/
def ctx (K : Dev nD × Kx → ℕ) : sProp 𝕄 := iprop(records m ρ K ∗ levAts L lv)

/-- They can be used any number of times. -/
instance ctx_persistent (K : Dev nD × Kx → ℕ) : BI.Persistent (ctx m ρ K) := by unfold ctx; infer_instance

variable (K : Dev nD × Kx → ℕ)

/-- One cell's invariant among all, -/
theorem inv_at (ck : Dev nD × Kx) :
    (bigSep Finset.univ fun ck : Dev nD × Kx => (cellInv ER (sched m ρ) (K ck) (kcell ck) : sProp 𝕄)) ⊢ cellInv ER (sched m ρ) (K ck) (kcell ck) :=
  bigSep_elim (Finset.mem_univ ck)
omit [FloatOps F] in
/-- one cell's round among all; -/
theorem reached_at (ck : Dev nD × Kx) :
    (bigSep Finset.univ fun ck : Dev nD × Kx => (reached ER (kcell ck) 0 : sProp 𝕄)) ⊢ reached ER (kcell ck) 0 :=
  bigSep_elim (Finset.mem_univ ck)
/-- the records hold each cell's invariant, -/
theorem ctx_inv (ck : Dev nD × Kx) : ctx m ρ K ⊢ cellInv ER (sched m ρ) (K ck) (kcell ck) := by
  unfold ctx records
  iintro ⟨⟨#HI, -⟩, -⟩
  iapply (inv_at m ρ K ck)
  iexact HI
/-- each cell's round, -/
theorem ctx_reached (ck : Dev nD × Kx) : ctx m ρ K ⊢ reached ER (kcell ck) 0 := by
  unfold ctx records
  iintro ⟨⟨-, #HR⟩, -⟩
  iapply (reached_at (F := F) ck)
  iexact HR
/-- and the levels. -/
theorem ctx_lev : ctx m ρ K ⊢ levAts L lv := by
  unfold ctx
  iintro ⟨-, #HL⟩
  iexact HL

/-! ## What a device holds for a chunk and step -/

/-- Device `d` owes `O`, whatever it has waited for. -/
def owesE (d : Dev nD) (O : CellTallies nD τ sig Unit) : sProp 𝕄 := iprop(∃ W, owes (d : Thread nD τ) O W)

/-- The copy `(c, t)` not yet started: its two duties' tokens and the landing slot it writes. -/
def sendKit (d : Dev nD) (c : Fin 8) (t : Fin 5) : sProp 𝕄 :=
  iprop(dutyTok ER (sendCell d c t) 0 0 ∗ dutyTok ER (recvCell (mate c t d) c t) 0 0 ∗ recAny (mate c t d) c t)
/-- The copy `(c, t)` under way. -/
def sent (d : Dev nD) (c : Fin 8) (t : Fin 5) : sProp 𝕄 := cred (tallyAt (sendCell d c t) () N)
/-- The waits at `(c, t)` not yet done: the positions at the two cells and the credit of the arrival. -/
def waitKit (d : Dev nD) (c : Fin 8) (t : Fin 5) : sProp 𝕄 :=
  iprop(atPos ER (sendCell d c t) 0 ∅ 0 ∗ atPos ER (recvCell d c t) 0 ∅ 0 ∗ cred (tallyAt (recvCell d c t) () N))
/-- The waits at `(c, t)` done: both counters at zero, the landing slot back. -/
def doneKit (d : Dev nD) (c : Fin 8) (t : Fin 5) : sProp 𝕄 :=
  iprop(semVal (sendCell d c t) 0 ∗ semVal (recvCell d c t) 0 ∗ recAny d c t)

/-! ## The rules -/

/-- The body calls nothing, so it needs no variant. -/
abbrev 𝒱₀ : Variants := Variants.none

/-- The weakest precondition of a program on device `d`'s core. -/
abbrev WP (d : Dev nD) {α : Type} (p : Pr F α) (Q : α → sProp 𝕄) : sProp 𝕄 :=
  wp frame (wpE (defs₀ (F := F)) 𝒱₀ (d : Thread nD τ) none) Set.univ p Q

variable {α : Type}

/-- A signal to partner `s`'s barrier hands it the landing slots it fills. -/
theorem signal_rule (d : Dev nD) (s : Fin 5) (O : CellTallies nD τ sig Unit) (k : PUnit → Pr F α) (Q : α → sProp 𝕄) :
    iprop(ctx m ρ K ∗ (dutyTok ER (barCell (peer s d)) 0 s ∗ barPay (peer s d) s) ∗ owesE d (O + dueBar d s))
      ⊢ iprop((owesE d O -∗ WP d (k ⟨⟩) Q) -∗ WP d ((semSignalWord (peer s d) barS 1#32 : Pr F PUnit) >>= k) Q) := by
  simp only [semSignalWord, Prog.lift, Prog.bind_op, Prog.bind_ret]
  unfold owesE
  iintro ⟨#Hc, ⟨Ht, Hp⟩, ⟨%W, HO⟩⟩ Hk
  iapply (Rounds.wp_signal 𝒱₀ ER (sched m ρ) (d : Thread nD τ) none (dst := (peer s d : Thread nD τ)) (κ := K (peer s d, ixBar))
      (d := s) (by rw [duties_bar]; exact Finset.mem_univ _) ((amount_bar m ρ (peer s d) s).trans (by decide)) () O rfl)
    $$ [HO Ht Hp]
  · isplitr; · iapply (ctx_inv m ρ K (peer s d, ixBar)); iexact Hc
    isplitl [HO]; · iexact HO
    isplitl [Ht]; · iexact Ht
    isplitl [Hp]; · rw [payload_bar]; iexact Hp
    iapply (ctx_reached m ρ K (peer s d, ixBar)); iexact Hc
  iintro HO
  iapply Hk
  iexists W; iexact HO

/-- The wait at the barrier hands over the landing slots the device fills; its cell is then closed. -/
theorem barrier_rule (d : Dev nD) (O : CellTallies nD τ sig Unit) (hO : Above 1 O) (k : PUnit → Pr F α) (Q : α → sProp 𝕄) :
    iprop(ctx m ρ K ∗ (atPos ER (barCell d) 0 ∅ 0 ∗ cred (tallyAt (barCell d) () 5)) ∗ owesE d O)
      ⊢ iprop((((bigSep Finset.univ fun s : Fin 5 => barPay d s) ∗ semVal (barCell d) 0 ∗ owesE d O) -∗ WP d (k ⟨⟩) Q)
        -∗ WP d ((semWaitWord barS 5#32 : Pr F PUnit) >>= k) Q) := by
  simp only [semWaitWord, Prog.lift, Prog.bind_op, Prog.bind_ret]
  unfold owesE
  iintro ⟨#Hc, ⟨Hat, Hcr⟩, ⟨%W, HO⟩⟩ Hk
  iapply (Rounds.wp_wait_rest_token 𝒱₀ ER (sched m ρ) (d : Thread nD τ) none (κ := K (d, ixBar))
      (wpE_semWait_eq 𝒱₀ (d : Thread nD τ) none Set.univ) (Set.mem_univ _) () (O := O) (W := W) (R := 0) (m := 0) (T := ∅)
      (by rw [expect_bar]; decide)) $$ [Hcr HO Hat]
  · isplitr; · iapply (ctx_inv m ρ K (d, ixBar)); iexact Hc
    isplitl [Hcr]; · iexact Hcr
    isplitl [HO]; · iexact HO
    isplitr
    · iapply (mayWait (F := F) d (.reg barS) O (by rw [role_bar]; exact hO))
      iapply (ctx_lev m ρ K); iexact Hc
    iexact Hat
  iintro ⟨HO, Hat, -, Hpay⟩
  imod (Rounds.cell_close ER (sched m ρ) (Set.mem_univ (K (d, ixBar))) (fun h => h) (R := 0 + 1) (duties_later m ρ (barCell d))) $$ [Hat] with Hz
  · isplitr; · iapply (ctx_inv m ρ K (d, ixBar)); iexact Hc
    iexact Hat
  iapply Hk
  isplitl [Hpay]; · iapply (Entails.of_eq (rest_bar m ρ d)); iexact Hpay
  isplitl [Hz]; · iexact Hz
  iexists _; iexact HO

set_option maxHeartbeats 1000000 in
/-- A copy started. -/
theorem sendOp_rule (d : Dev nD) (c : Fin 8) (t : Fin 5) (O : CellTallies nD τ sig Unit) (k : PUnit → Pr F α) (Q : α → sProp 𝕄) :
    iprop(ctx m ρ K ∗ (accPts d c (A m ρ c t.val d) ∗ sendKit d c t) ∗ owesE d (O + due d c t))
      ⊢ iprop(((sent d c t ∗ owesE d O) -∗ WP d (k ⟨⟩) Q) -∗ WP d (sendOp (mate c t d) c t >>= k) Q) := by
  simp only [sendOp, Prog.lift, Prog.bind_op, Prog.bind_ret]
  unfold owesE sendKit sent accPts recAny recPts owns
  iintro ⟨#Hc, ⟨⟨%fs, %hfs, Hacc⟩, Hts, Htr, ⟨%X, %fd, -, Hrec⟩⟩, ⟨%W, HO⟩⟩ Hk
  iapply (Rounds.wp_send_pointsTo 𝒱₀ ER (sched m ρ) (d : Thread nD τ) none (κ₁ := K (d, ixSend c t)) (κ₂ := K (mate c t d, ixRecv c t))
    (c' := (mate c t d : Thread nD τ)) (src := accV c) (dst := recV c t) (sS := .dma (sendS c t)) (sem := .dma (recvS c t))
    (r₁ := 0) (r₂ := 0) (d₁ := 0) (d₂ := 0) (fs := fs) (fd := fd)
    (by rw [duties_send]; exact Finset.mem_singleton_self _) (by rw [duties_recv]; exact Finset.mem_singleton_self _)
    () () N (rec_credit c t) (amount_send m ρ d c t 0) (amount_recv m ρ (mate c t d) c t 0) O rfl (W := W)
    (by
      rw [payload_send]; unfold accPts owns
      iintro H; iexists fs
      isplitr; · (ipureintro; exact hfs)
      iexact H)
    (by
      rw [payload_recv, mate_mate]; unfold recPts owns
      iintro H; iexists _
      isplitr
      · ipureintro
        exact (View.read_write_univ (v := (recV c t).view) fd _).trans hfs
      iexact H)) $$ [Hacc Hts Htr Hrec HO]
  · isplitr; · iapply (ctx_inv m ρ K (d, ixSend c t)); iexact Hc
    isplitr; · iapply (ctx_inv m ρ K (mate c t d, ixRecv c t)); iexact Hc
    isplitl [Hacc]; · iexact Hacc
    isplitl [Hrec]; · iexact Hrec
    isplitl [HO]; · iexact HO
    isplitl [Hts]; · iexact Hts
    isplitr; · iapply (ctx_reached m ρ K (d, ixSend c t)); iexact Hc
    isplitl [Htr]; · iexact Htr
    iapply (ctx_reached m ρ K (mate c t d, ixRecv c t)); iexact Hc
  iintro ⟨Hcr, HO⟩
  iapply Hk
  isplitl [Hcr]; · iexact Hcr
  iexists W; iexact HO

/-- A copy waited for, and the arrival: the slot is back, the landing slot has the block of the device met. -/
theorem waitOp_rule (d : Dev nD) (c : Fin 8) (t : Fin 5) (O : CellTallies nD τ sig Unit) (hO : Above (2 + t.val) O)
    (k : PUnit → Pr F α) (Q : α → sProp 𝕄) :
    iprop(ctx m ρ K ∗ (sent d c t ∗ waitKit d c t) ∗ owesE d O)
      ⊢ iprop(((accPts d c (A m ρ c t.val d) ∗ recPts d c t (A m ρ c t.val (mate c t d)) ∗ semVal (sendCell d c t) 0 ∗ semVal (recvCell d c t) 0
          ∗ owesE d O) -∗ WP d (k ⟨⟩) Q) -∗ WP d (waitOp c t >>= k) Q) := by
  simp only [waitOp, Prog.lift, Prog.bind_op, Prog.bind_ret]
  unfold owesE sent waitKit
  iintro ⟨#Hc, ⟨HcS, HaS, HaR, HcR⟩, ⟨%W, HO⟩⟩ Hk
  iapply (Rounds.wp_wait_rest_token 𝒱₀ ER (sched m ρ) (d : Thread nD τ) none (κ := K (d, ixSend c t))
      (wpE_waitDma2_eq 𝒱₀ (d : Thread nD τ) none Set.univ) (Set.mem_univ _) () (O := O) (W := W) (R := 0) (m := 0) (T := ∅)
      (by rw [Nat.zero_add, expect_send])) $$ [HcS HO HaS]
  · isplitr; · iapply (ctx_inv m ρ K (d, ixSend c t)); iexact Hc
    isplitl [HcS]; · iexact HcS
    isplitl [HO]; · iexact HO
    isplitr
    · iapply (mayWait (F := F) d (.dma (sendS c t)) O (by
        rw [role_send]; exact fun g u hg => ⟨(hO g u hg).1, lt_of_le_of_lt (Nat.zero_le _) (hO g u hg).2⟩))
      iapply (ctx_lev m ρ K); iexact Hc
    iexact HaS
  iintro ⟨HO, HaS, -, Hpay⟩
  ihave Hacc := (Entails.of_eq (rest_send m ρ d c t)) $$ Hpay
  iapply (Rounds.wp_wait_rest_token 𝒱₀ ER (sched m ρ) (d : Thread nD τ) none (κ := K (d, ixRecv c t))
      (wpE_waitDma2_eq 𝒱₀ (d : Thread nD τ) none Set.univ) (Set.mem_univ _) () (O := O)
      (W := insert (SemLoc.dma (sendS c t), ()) W) (R := 0) (m := 0) (T := ∅)
      (by rw [Nat.zero_add, expect_recv])) $$ [HcR HO HaR]
  · isplitr; · iapply (ctx_inv m ρ K (d, ixRecv c t)); iexact Hc
    isplitl [HcR]; · iexact HcR
    isplitl [HO]; · iexact HO
    isplitr
    · iapply (mayWait (F := F) d (.dma (recvS c t)) O (by rw [role_recv]; exact hO))
      iapply (ctx_lev m ρ K); iexact Hc
    iexact HaR
  iintro ⟨HO, HaR, -, Hpay⟩
  ihave Hrec := (Entails.of_eq (rest_recv m ρ d c t)) $$ Hpay
  imod (Rounds.cell_close ER (sched m ρ) (Set.mem_univ (K (d, ixSend c t))) (fun h => h) (R := 0 + 1) (duties_later m ρ (sendCell d c t))) $$ [HaS] with HzS
  · isplitr; · iapply (ctx_inv m ρ K (d, ixSend c t)); iexact Hc
    iexact HaS
  imod (Rounds.cell_close ER (sched m ρ) (Set.mem_univ (K (d, ixRecv c t))) (fun h => h) (R := 0 + 1) (duties_later m ρ (recvCell d c t))) $$ [HaR] with HzR
  · isplitr; · iapply (ctx_inv m ρ K (d, ixRecv c t)); iexact Hc
    iexact HaR
  iapply Hk
  isplitl [Hacc]; · iexact Hacc
  isplitl [Hrec]; · iexact Hrec
  isplitl [HzS]; · iexact HzS
  isplitl [HzR]; · iexact HzR
  iexists _; iexact HO

/-- A load from a slot of the accumulator stays in the slot, -/
theorem acc_within (c : Fin 8) : (accM : Memref sig .tc _ _ _).view.setOn (accR c).toLoadRect.set ⊆ (accV c).view.set := by
  rw [acc_set]
  intro i hi
  obtain ⟨x, hx, rfl⟩ := Finset.mem_map.mp hi
  exact hx
/-- one from a slot of the receive buffer in that slot, -/
theorem rec_within (c : Fin 8) (t : Fin 5) : (recM : Memref sig .tc _ _ _).view.setOn (recR c t).toLoadRect.set ⊆ (recV c t).view.set := by
  rw [rec_set]
  intro i hi
  obtain ⟨x, hx, rfl⟩ := Finset.mem_map.mp hi
  exact hx
/-- and one from a chunk of result rows in that chunk. -/
theorem out_within (c : Fin 8) : (oM : Memref sig .tc _ _ _).view.setOn (outR c).toLoadRect.set ⊆ (outV c).view.set := by
  rw [out_set]
  intro i hi
  obtain ⟨x, hx, rfl⟩ := Finset.mem_map.mp hi
  exact hx
/-- A store to a slot of the accumulator stays in the slot, -/
theorem acc_stored (c : Fin 8) : (accM.access (accR c) : View sig .tc _ _ _).setOn Finset.univ ⊆ (accV c).view.set := by
  rw [acc_set, View.setOn_univ]
  exact (View.set_slice_whole _ _).subset
/-- and one to a chunk of result rows in that chunk. -/
theorem out_stored (c : Fin 8) : (oM.access (outR c) : View sig .tc _ _ _).setOn Finset.univ ⊆ (outV c).view.set := by
  rw [out_set, View.setOn_univ]
  exact (View.set_slice_whole _ _).subset

/-- A chunk's product put into its slot. -/
theorem firstOp_rule (d : Dev nD) (c : Fin 8) (x : Vec F S256x256 .bf16) (w1 : Vec F S256x512 .bf16) (w2 : Vec F S512x256 .bf16)
    (k : PUnit → Pr F α) (Q : α → sProp 𝕄) :
    (accAny d c : sProp 𝕄) ⊢ iprop((accPts d c (product c x w1 w2) -∗ WP d (k ⟨⟩) Q) -∗ WP d (firstOp x w1 w2 c >>= k) Q) := by
  simp only [firstOp, loadAcc, storeAcc, Prog.lift, Prog.bind_op, Prog.bind_ret]
  unfold accAny accPts owns
  iintro ⟨%X, %f, -, H⟩ Hk
  iapply (wp_load 𝒱₀ (d : Thread nD τ) none Set.univ (m := accM) (acc_within c)) $$ H; iintro H
  iapply (wp_store 𝒱₀ (d : Thread nD τ) none Set.univ (m := accM) (r := accR c) (Mk := Finset.univ) (acc_stored c)) $$ H; iintro H
  iapply Hk
  iexists _
  isplitr
  · ipureintro; exact read_write_acc c f _
  iexact H

/-- An arrival added to the slot. -/
theorem mixOp_rule (d : Dev nD) (c : Fin 8) (t : Fin 5) (X Y : FVec F S32x256 .bf16) (k : PUnit → Pr F α) (Q : α → sProp 𝕄) :
    iprop(accPts d c X ∗ recPts d c t Y)
      ⊢ iprop(((accPts d c (addf X Y) ∗ recPts d c t Y) -∗ WP d (k ⟨⟩) Q) -∗ WP d (mixOp c t >>= k) Q) := by
  simp only [mixOp, loadAcc, loadRec, storeAcc, Prog.lift, Prog.bind_op, Prog.bind_ret]
  unfold accPts recPts owns
  iintro ⟨⟨%f, %hf, H⟩, ⟨%g, %hg, G⟩⟩ Hk
  iapply (wp_load 𝒱₀ (d : Thread nD τ) none Set.univ (m := accM) (acc_within c)) $$ H; iintro H
  iapply (wp_load 𝒱₀ (d : Thread nD τ) none Set.univ (m := recM) (rec_within c t)) $$ G; iintro G
  iapply (wp_load 𝒱₀ (d : Thread nD τ) none Set.univ (m := accM) (acc_within c)) $$ H; iintro H
  iapply (wp_store 𝒱₀ (d : Thread nD τ) none Set.univ (m := accM) (r := accR c) (Mk := Finset.univ) (acc_stored c)) $$ H; iintro H
  iapply Hk
  isplitl [H]
  · iexists _
    isplitr
    · ipureintro; exact (read_write_acc c f (addIn (accM.view.readAt (Elt F) (accR c).toLoadRect f) (recM.view.readAt (Elt F) (recR c t).toLoadRect g))).trans
        (by rw [addIn_read, hf, hg])
    iexact H
  iexists g
  isplitr; · (ipureintro; exact hg)
  iexact G

/-- The last arrival added, and the sum put into the result. -/
theorem outOp_rule (d : Dev nD) (c : Fin 8) (X Y : FVec F S32x256 .bf16) (k : PUnit → Pr F α) (Q : α → sProp 𝕄) :
    iprop(accPts d c X ∗ recPts d c 4 Y ∗ outAny d c)
      ⊢ iprop(((accPts d c X ∗ recPts d c 4 Y ∗ outPts d c (addf X Y)) -∗ WP d (k ⟨⟩) Q) -∗ WP d (outOp c >>= k) Q) := by
  simp only [outOp, loadAcc, loadRec, loadOut, storeOut, Prog.lift, Prog.bind_op, Prog.bind_ret]
  unfold accPts recPts outAny outPts owns
  iintro ⟨⟨%f, %hf, H⟩, ⟨%g, %hg, G⟩, ⟨%Z, %h, -, J⟩⟩ Hk
  iapply (wp_load 𝒱₀ (d : Thread nD τ) none Set.univ (m := accM) (acc_within c)) $$ H; iintro H
  iapply (wp_load 𝒱₀ (d : Thread nD τ) none Set.univ (m := recM) (rec_within c 4)) $$ G; iintro G
  iapply (wp_load 𝒱₀ (d : Thread nD τ) none Set.univ (m := oM) (out_within c)) $$ J; iintro J
  iapply (wp_store 𝒱₀ (d : Thread nD τ) none Set.univ (m := oM) (r := outR c) (Mk := Finset.univ) (out_stored c)) $$ J; iintro J
  iapply Hk
  isplitl [H]
  · iexists f
    isplitr; · (ipureintro; exact hf)
    iexact H
  isplitl [G]
  · iexists g
    isplitr; · (ipureintro; exact hg)
    iexact G
  iexists _
  isplitr
  · ipureintro; exact (read_write_out c h (addIn (accM.view.readAt (Elt F) (accR c).toLoadRect f) (recM.view.readAt (Elt F) (recR c 4).toLoadRect g))).trans
      (by rw [addIn_read, hf, hg])
  iexact J

end Cert.AllReduce

end
-- ==== Proof.Body.lean ====
/-
The body, from what a device starts with to what it ends with.

`each_rule` runs a list of like programs, each on its own piece; the five parts of the body are instances of it.
-/
module

public import proofs.«01_k».proof.Proof.Steps

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kx → ℕ)
variable {α : Type}

/-! ## Along a list -/

/-- A separating conjunction along a list. -/
def along {I : Type} : List I → (I → sProp 𝕄) → sProp 𝕄
  | [], _ => iprop(emp)
  | a :: l, Φ => iprop(Φ a ∗ along l Φ)

omit [FloatOps F] in
/-- Owning a piece for each element of a list's set is owning the pieces along the list. -/
theorem along_toFinset {I : Type} [DecidableEq I] (l : List I) (hl : l.Nodup) (Φ : I → sProp 𝕄) : bigSep l.toFinset Φ = along l Φ := by
  induction l with
  | nil => rfl
  | cons a l ih =>
    rw [List.toFinset_cons, bigSep_insert (by rw [List.mem_toFinset]; exact (List.nodup_cons.mp hl).1), ih (List.nodup_cons.mp hl).2]
    rfl

omit [FloatOps F] in
/-- The pieces of all chunks, along the list of chunks. -/
theorem along_chunks (Φ : Fin 8 → sProp 𝕄) : bigSep Finset.univ Φ = along chunks Φ :=
  (congrArg (fun S => bigSep S Φ) (by decide)).trans (along_toFinset chunks (by decide) Φ)
omit [FloatOps F] in
/-- The pieces of all partners, along the list of partners. -/
theorem along_partners (Φ : Fin 5 → sProp 𝕄) : bigSep Finset.univ Φ = along partners Φ :=
  (congrArg (fun S => bigSep S Φ) (by decide)).trans (along_toFinset partners (by decide) Φ)

omit [FloatOps F] in
/-- Pairs of pieces along a list split into two rows of pieces. -/
theorem along_sep {I : Type} (l : List I) (Φ Ψ : I → sProp 𝕄) :
    iprop(along l Φ ∗ along l Ψ) ⊢ along l fun a => iprop(Φ a ∗ Ψ a) := by
  induction l with
  | nil => unfold along; iintro -; iempintro
  | cons a l ih =>
    unfold along
    iintro ⟨⟨H1, H2⟩, H3, H4⟩
    isplitl [H1 H3]
    · isplitl [H1] <;> iassumption
    iapply ih
    isplitl [H2] <;> iassumption

omit [FloatOps F] in
/-- Two rows of pieces along a list join into a row of pairs. -/
theorem along_unsep {I : Type} (l : List I) (Φ Ψ : I → sProp 𝕄) :
    (along l fun a => iprop(Φ a ∗ Ψ a)) ⊢ iprop(along l Φ ∗ along l Ψ) := by
  induction l with
  | nil => unfold along; iintro -; isplitl <;> iempintro
  | cons a l ih =>
    unfold along
    iintro ⟨⟨H1, H2⟩, H⟩
    ihave H' := ih $$ H
    icases H' with ⟨H3, H4⟩
    isplitl [H1 H3]
    · isplitl [H1] <;> iassumption
    isplitl [H2] <;> iassumption

/-- Running no program is going on. -/
theorem each_nil_bind {I : Type} (f : I → Pr F PUnit) (k : PUnit → Pr F α) : (each [] f >>= k) = k ⟨⟩ := pure_bind _ _
/-- Running a list of programs is running the first, then the rest. -/
theorem each_cons_bind {I : Type} (a : I) (l : List I) (f : I → Pr F PUnit) (k : PUnit → Pr F α) :
    (each (a :: l) f >>= k) = (f a >>= fun _ => each l f >>= k) := bind_assoc _ _ _

/-- A property of what is owed that each element of a list keeps is kept along the whole list. -/
theorem holds_sum {I : Type} (o : I → CellTallies nD τ sig Unit) (H : CellTallies nD τ sig Unit → Prop)
    (hadd : ∀ a O, H O → H (O + o a)) (l : List I) (O : CellTallies nD τ sig Unit) (hO : H O) : H (O + (l.map o).sum) := by
  induction l with
  | nil => rw [List.map_nil, List.sum_nil, add_zero]; exact hO
  | cons a l ih => rw [List.map_cons, List.sum_cons, add_comm (o a), ← add_assoc]; exact hadd a _ ih

/-- A list of like programs: each takes its own piece `P a` to `R a` and pays `o a` off what is owed. -/
theorem each_rule {I : Type} (d : Dev nD) (f : I → Pr F PUnit) (P R : I → sProp 𝕄) (o : I → CellTallies nD τ sig Unit)
    (H : CellTallies nD τ sig Unit → Prop) (hadd : ∀ a O, H O → H (O + o a))
    (hstep : ∀ a O, H O → ∀ (k : PUnit → Pr F α) (Q : α → sProp 𝕄),
      iprop(ctx m ρ K ∗ P a ∗ owesE d (O + o a)) ⊢ iprop(((R a ∗ owesE d O) -∗ WP d (k ⟨⟩) Q) -∗ WP d (f a >>= k) Q))
    (l : List I) (O : CellTallies nD τ sig Unit) (hO : H O) (k : PUnit → Pr F α) (Q : α → sProp 𝕄) :
    iprop(ctx m ρ K ∗ along l P ∗ owesE d (O + (l.map o).sum))
      ⊢ iprop(((along l R ∗ owesE d O) -∗ WP d (k ⟨⟩) Q) -∗ WP d (each l f >>= k) Q) := by
  induction l generalizing Q with
  | nil =>
    rw [each_nil_bind, List.map_nil, List.sum_nil, add_zero]
    unfold along
    iintro ⟨-, -, HO⟩ Hk
    iapply Hk
    isplitr [HO]; · iempintro
    iexact HO
  | cons a l ih =>
    rw [each_cons_bind, List.map_cons, List.sum_cons, add_comm (o a), ← add_assoc]
    unfold along
    iintro ⟨#Hc, ⟨Ha, Hl⟩, HO⟩ Hk
    iapply (hstep a (O + (l.map o).sum) (holds_sum o H hadd l O hO) (fun _ => each l f >>= k) Q) $$ [Ha HO]
    · isplitr; · iexact Hc
      isplitl [Ha] <;> iassumption
    iintro ⟨HR, HO⟩
    iapply (ih Q) $$ [Hl HO]
    · isplitr; · iexact Hc
      isplitl [Hl] <;> iassumption
    iintro ⟨HRl, HO⟩
    iapply Hk
    isplitr [HO]
    · isplitl [HR] <;> iassumption
    iexact HO

/-! ## The parts of the body -/

/-- The signals. -/
theorem signals_rule (d : Dev nD) (O : CellTallies nD τ sig Unit) (k : PUnit → Pr F α) (Q : α → sProp 𝕄) :
    iprop(ctx m ρ K ∗ along partners (fun s => iprop(dutyTok ER (barCell (peer s d)) 0 s ∗ barPay (peer s d) s))
        ∗ owesE d (O + (partners.map (dueBar d)).sum))
      ⊢ iprop(((along partners (fun _ => (iprop(emp) : sProp 𝕄)) ∗ owesE d O) -∗ WP d (k ⟨⟩) Q)
        -∗ WP d (each partners (fun s => semSignalWord (peer s d) barS 1#32) >>= k) Q) :=
  each_rule m ρ K d (fun s => semSignalWord (peer s d) barS 1#32)
    (fun s => iprop(dutyTok ER (barCell (peer s d)) 0 s ∗ barPay (peer s d) s)) (fun _ => iprop(emp)) (dueBar d)
    (fun _ => True) (fun _ _ _ => trivial)
    (fun s O _ k Q => by
      iintro H Hk
      iapply (signal_rule m ρ K d s O k Q) $$ H
      iintro HO
      iapply Hk
      isplitr; · iempintro
      iexact HO)
    partners O trivial k Q

/-- The products of chunks 1 to 7, each sent off. -/
theorem firsts_rule (d : Dev nD) (O : CellTallies nD τ sig Unit) (k : PUnit → Pr F α) (Q : α → sProp 𝕄) :
    iprop(ctx m ρ K ∗ along chunks' (fun c => iprop(accAny d c ∗ sendKit d c 0)) ∗ owesE d (O + (chunks'.map (due d · 0)).sum))
      ⊢ iprop(((along chunks' (fun c => sent d c 0) ∗ owesE d O) -∗ WP d (k ⟨⟩) Q)
        -∗ WP d (each chunks' (fun c => do
            firstOp (xAt m ρ d) (w1At m ρ d) (w2At m ρ d) c
            sendOp (mate c 0 d) c 0) >>= k) Q) :=
  each_rule m ρ K d _ (fun c => iprop(accAny d c ∗ sendKit d c 0)) (fun c => sent d c 0) (due d · 0)
    (fun _ => True) (fun _ _ _ => trivial)
    (fun c O _ k Q => by
      rw [bind_assoc]
      iintro ⟨#Hc, ⟨Ha, Hs⟩, HO⟩ Hk
      iapply (firstOp_rule d c _ _ _ _ Q) $$ Ha
      iintro Ha
      iapply (sendOp_rule m ρ K d c 0 O k Q) $$ [Ha Hs HO]
      · isplitr; · iexact Hc
        isplitl [Ha Hs]
        · isplitl [Ha]; · iexact Ha
          iexact Hs
        iexact HO
      iexact Hk)
    chunks' O trivial k Q

/-- One step of the exchange: every chunk's arrival waited for and added, and the chunk sent on. -/
theorem step_rule (d : Dev nD) (t : Fin 4) (O : CellTallies nD τ sig Unit) (hO : Above (2 + t.val) O) (k : PUnit → Pr F α) (Q : α → sProp 𝕄) :
    iprop(ctx m ρ K ∗ along chunks (fun c => iprop(sent d c t.castSucc ∗ waitKit d c t.castSucc ∗ sendKit d c t.succ))
        ∗ owesE d (O + (chunks.map (due d · t.succ)).sum))
      ⊢ iprop(((along chunks (fun c => iprop(sent d c t.succ ∗ doneKit d c t.castSucc)) ∗ owesE d O) -∗ WP d (k ⟨⟩) Q)
        -∗ WP d (each chunks (fun c => do
            waitOp c t.castSucc
            mixOp c t.castSucc
            sendOp (mate c t.succ d) c t.succ) >>= k) Q) :=
  each_rule m ρ K d _ (fun c => iprop(sent d c t.castSucc ∗ waitKit d c t.castSucc ∗ sendKit d c t.succ))
    (fun c => iprop(sent d c t.succ ∗ doneKit d c t.castSucc)) (due d · t.succ)
    (Above (2 + t.val)) (fun c O h => above_add h (above_due d c _ (by rw [Fin.val_succ]; omega)))
    (fun c O h k Q => by
      rw [bind_assoc]
      iintro ⟨#Hc, ⟨Hs, Hw, Hn⟩, HO⟩ Hk
      iapply (waitOp_rule m ρ K d c t.castSucc (O + due d c t.succ)
        (above_add h (above_due d c _ (by rw [Fin.val_succ, Fin.val_castSucc]; omega))) _ Q) $$ [Hs Hw HO]
      · isplitr; · iexact Hc
        isplitl [Hs Hw]
        · isplitl [Hs] <;> iassumption
        iexact HO
      iintro ⟨Ha, Hr, Hz, Hz', HO⟩
      rw [bind_assoc]
      iapply (mixOp_rule d c t.castSucc _ _ _ Q) $$ [Ha Hr]
      · isplitl [Ha] <;> iassumption
      iintro ⟨Ha, Hr⟩
      rw [← A_succ m ρ c t.castSucc d]
      iapply (sendOp_rule m ρ K d c t.succ O k Q) $$ [Ha Hn HO]
      · isplitr; · iexact Hc
        isplitl [Ha Hn]
        · isplitl [Ha]; · iexact Ha
          iexact Hn
        iexact HO
      iintro ⟨Hs, HO⟩
      iapply Hk
      isplitr [HO]
      · isplitl [Hs]; · iexact Hs
        unfold doneKit recAny
        isplitl [Hz]; · iexact Hz
        isplitl [Hz']; · iexact Hz'
        iexists _; iexact Hr
      iexact HO)
    chunks O hO k Q

/-- The last step: every chunk's last arrival waited for, added and put into the result. -/
theorem lasts_rule (d : Dev nD) (k : PUnit → Pr F α) (Q : α → sProp 𝕄) :
    iprop(ctx m ρ K ∗ along chunks (fun c => iprop(sent d c 4 ∗ waitKit d c 4 ∗ outAny d c)) ∗ owesE d 0)
      ⊢ iprop(((along chunks (fun c => iprop(doneKit d c 4 ∗ accAny d c ∗ outPts d c (A m ρ c 5 d))) ∗ owesE d 0) -∗ WP d (k ⟨⟩) Q)
        -∗ WP d (each chunks (fun c => do
            waitOp c 4
            outOp c) >>= k) Q) := by
  have h := each_rule (α := α) m ρ K d (fun c => do
            waitOp c 4
            outOp c) (fun c => iprop(sent d c 4 ∗ waitKit d c 4 ∗ outAny d c))
    (fun c => iprop(doneKit d c 4 ∗ accAny d c ∗ outPts d c (A m ρ c 5 d))) (fun _ => 0)
    (fun O => O = 0) (fun c O h => by rw [h, add_zero])
    (fun c O h k Q => by
      subst h
      rw [bind_assoc, add_zero]
      iintro ⟨#Hc, ⟨Hs, Hw, Ho⟩, HO⟩ Hk
      iapply (waitOp_rule m ρ K d c 4 0 (above_zero _) _ Q) $$ [Hs Hw HO]
      · isplitr; · iexact Hc
        isplitl [Hs Hw]
        · isplitl [Hs] <;> iassumption
        iexact HO
      iintro ⟨Ha, Hr, Hz, Hz', HO⟩
      iapply (outOp_rule d c _ _ _ Q) $$ [Ha Hr Ho]
      · isplitl [Ha]; · iexact Ha
        isplitl [Hr] <;> iassumption
      iintro ⟨Ha, Hr, Ho⟩
      rw [← A_succ m ρ c 4 d]
      iapply Hk
      isplitr [HO]
      · unfold doneKit recAny accAny
        isplitl [Hz Hz' Hr]
        · isplitl [Hz]; · iexact Hz
          isplitl [Hz']; · iexact Hz'
          iexists _; iexact Hr
        isplitl [Ha]; · iexists _; iexact Ha
        iexact Ho
      iexact HO)
    chunks 0 rfl k Q
  have h0 : (chunks.map fun _ : Fin 8 => (0 : CellTallies nD τ sig Unit)).sum = 0 := by
    simp only [List.map_cons, List.map_nil, List.sum_cons, List.sum_nil, add_zero]
  rw [h0, add_zero] at h
  exact h

omit [FloatOps F] in
/-- A load of a whole buffer. -/
theorem load_rule [FloatOps F] (d : Dev nD) {cs : CoreSpace} {s : Shape} {e : EltTy} (M : Memref sig .tc cs s e) (r : LoadRect s) (hl : M.view.LoadsAt r)
    (f : Buf (Elt F) (M.view.loc (d : Thread nD τ))) (v : r.shape.Idx → Elt F e) (hv : M.view.readAt (Elt F) r f = v)
    (k : (r.shape.Idx → Elt F e) → Pr F α) (Q : α → sProp 𝕄) :
    ((M.view.loc (d : Thread nD τ)) ↦{fullShare} f : sProp 𝕄)
      ⊢ iprop((((M.view.loc (d : Thread nD τ)) ↦{fullShare} f) -∗ WP d (k v) Q) -∗ WP d ((Prog.lift (.load M r hl) : Pr F _) >>= k) Q) := by
  subst hv
  simp only [Prog.lift, Prog.bind_op, Prog.bind_ret]
  exact wp_load 𝒱₀ (d : Thread nD τ) none Set.univ (m := M) (Finset.subset_univ _)

/-! ## What is owed, in the order it is paid -/

/-- What the sends of step `t` pay. -/
def dueStep (d : Dev nD) (t : Fin 5) : CellTallies nD τ sig Unit := (chunks.map (due d · t)).sum

/-- A sum over the chunks, along the list of chunks. -/
theorem sum_chunks (f : Fin 8 → CellTallies nD τ sig Unit) : ∑ c : Fin 8, f c = (chunks.map f).sum := by
  rw [Fin.sum_univ_eight]
  simp only [List.map_cons, List.map_nil, List.sum_cons, List.sum_nil, add_zero, add_assoc]

/-- A sum over the partners, along the list of partners. -/
theorem sum_partners (f : Fin 5 → CellTallies nD τ sig Unit) : ∑ s : Fin 5, f s = (partners.map f).sum := by
  rw [Fin.sum_univ_five]
  simp only [List.map_cons, List.map_nil, List.sum_cons, List.sum_nil, add_zero, add_assoc]

/-- What is owed while the copies of the last `n` steps have not been started. -/
def left (d : Dev nD) : ℕ → CellTallies nD τ sig Unit
  | 0 => 0
  | n + 1 => left d n + dueStep d (Fin.ofNat 5 (4 - n))

/-- All that a device owes at the start, in the order in which it pays. -/
theorem O₀_eq (d : Dev nD) :
    O₀ d = ((left d 4 + (chunks'.map (due d · 0)).sum) + due d 0 0) + (partners.map (dueBar d)).sum := by
  have h : left d 4 = 0 + dueStep d 4 + dueStep d 3 + dueStep d 2 + dueStep d 1 := rfl
  have h0 : dueStep d 0 = due d 0 0 + (chunks'.map (due d · 0)).sum := rfl
  unfold O₀
  rw [← sum_partners, Finset.sum_comm, Fin.sum_univ_five, sum_chunks, sum_chunks, sum_chunks, sum_chunks, sum_chunks]
  refine congrArg (· + _) ?_
  show dueStep d 0 + dueStep d 1 + dueStep d 2 + dueStep d 3 + dueStep d 4 = _
  rw [h, h0, zero_add]
  ac_rfl

/-- The duties of a step lie above every level below the step's. -/
theorem above_dueStep (d : Dev nD) (t : Fin 5) (n : ℕ) (h : n < 2 + t.val) : Above n (dueStep d t) := by
  unfold dueStep
  rw [← sum_chunks]
  exact above_sum _ _ fun c _ => above_due d c t h

/-- The duties that are left lie above the level of the step that is waited for. -/
theorem above_left (d : Dev nD) (n j : ℕ) (h : n + j ≤ 6) (hj : j ≤ 5) : Above n (left d j) := by
  induction j with
  | zero => exact above_zero n
  | succ j ih =>
    refine above_add (ih (by omega) (by omega)) (above_dueStep d _ n ?_)
    show n < 2 + (4 - j) % 5
    omega

/-! ## The body -/

/-- The tokens of the copy `(c, t)`'s two duties. -/
def tokKit (d : Dev nD) (c : Fin 8) (t : Fin 5) : sProp 𝕄 :=
  iprop(dutyTok ER (sendCell d c t) 0 0 ∗ dutyTok ER (recvCell (mate c t d) c t) 0 0)

omit [FloatOps F] in
/-- The landing slots handed over at the barrier complete the tokens. -/
theorem kits_intro (d : Dev nD) :
    iprop((bigSep Finset.univ fun c : Fin 8 => bigSep Finset.univ fun t : Fin 5 => tokKit d c t) ∗ (bigSep Finset.univ fun s : Fin 5 => barPay d s))
      ⊢ (bigSep Finset.univ fun c : Fin 8 => bigSep Finset.univ fun t : Fin 5 => sendKit d c t : sProp 𝕄) := by
  rw [barPay_slots, ← bigSep_sep']
  refine bigSep_mono fun c _ => ?_
  rw [← bigSep_sep']
  refine bigSep_mono fun t _ => show iprop(tokKit d c t ∗ recAny (mate c t d) c t) ⊢ sendKit d c t from ?_
  unfold tokKit sendKit
  iintro ⟨⟨H1, H2⟩, H3⟩
  isplitl [H1]; · iexact H1
  isplitl [H2] <;> iassumption

omit [FloatOps F] in
/-- Things held for every chunk and step, step by step. -/
theorem by_steps (Φ : Fin 8 → Fin 5 → sProp 𝕄) :
    (bigSep Finset.univ fun c : Fin 8 => bigSep Finset.univ fun t : Fin 5 => Φ c t)
      = iprop(along chunks (Φ · 0) ∗ along chunks (Φ · 1) ∗ along chunks (Φ · 2) ∗ along chunks (Φ · 3) ∗ along chunks (Φ · 4)) := by
  rw [bigSep_univ_comm, bigSep_univ_eq_bigSepL [0, 1, 2, 3, 4] (by decide) (by decide), bigSepL_cons_cons, bigSepL_cons_cons, bigSepL_cons_cons,
    bigSepL_cons_cons, bigSepL_singleton]
  simp only [along_chunks]
  rfl

/-- What the body starts with, the staged operands apart, -/
def bodyIn (d : Dev nD) : sProp 𝕄 :=
  iprop((bigSep Finset.univ fun s : Fin 5 => iprop(dutyTok ER (barCell (peer s d)) 0 s ∗ barPay (peer s d) s))
    ∗ (atPos ER (barCell d) 0 ∅ 0 ∗ cred (tallyAt (barCell d) () 5))
    ∗ (bigSep Finset.univ fun c : Fin 8 => accAny d c)
    ∗ (bigSep Finset.univ fun c : Fin 8 => outAny d c)
    ∗ (bigSep Finset.univ fun c : Fin 8 => bigSep Finset.univ fun t : Fin 5 => tokKit d c t)
    ∗ (bigSep Finset.univ fun c : Fin 8 => bigSep Finset.univ fun t : Fin 5 => waitKit d c t)
    ∗ owesE d (O₀ d))
/-- and what it ends with. -/
def bodyOut (d : Dev nD) : sProp 𝕄 :=
  iprop(semVal (barCell d) 0
    ∗ (bigSep Finset.univ fun c : Fin 8 => accAny d c)
    ∗ (bigSep Finset.univ fun c : Fin 8 => outPts d c (A m ρ c 5 d))
    ∗ (bigSep Finset.univ fun c : Fin 8 => bigSep Finset.univ fun t : Fin 5 => doneKit d c t)
    ∗ owesE d 0)
/-- The staged operands. -/
def operands (d : Dev nD) : sProp 𝕄 :=
  iprop((((d : Thread nD τ).loc cc0_stg0_0) ↦{fullShare} xAt m ρ d) ∗ (((d : Thread nD τ).loc cc0_stg1_0) ↦{fullShare} w1At m ρ d)
    ∗ (((d : Thread nD τ).loc cc0_stg2_0) ↦{fullShare} w2At m ρ d))

/-- The offsets of a whole block are zero. -/
theorem hz : (![0, 0] : Fin 2 → Nat) = fun _ => 0 := funext fun a => by fin_cases a <;> rfl

/-- The four middle steps, one after another. -/
theorem steps_bind (f : Fin 4 → Pr F PUnit) (k : PUnit → Pr F α) :
    (each steps f >>= k) = (f 0 >>= fun _ => f 1 >>= fun _ => f 2 >>= fun _ => f 3 >>= k) := by
  rw [each_cons_bind, each_cons_bind, each_cons_bind, each_cons_bind, each_nil_bind]

/-- The exchange after the first sends. -/
theorem exchange_rule (d : Dev nD) (Q : PUnit → sProp 𝕄) :
    iprop(ctx m ρ K ∗ along chunks (sent d · 0)
        ∗ (along chunks (waitKit d · 0) ∗ along chunks (waitKit d · 1) ∗ along chunks (waitKit d · 2) ∗ along chunks (waitKit d · 3) ∗ along chunks (waitKit d · 4))
        ∗ (along chunks (sendKit d · 1) ∗ along chunks (sendKit d · 2) ∗ along chunks (sendKit d · 3) ∗ along chunks (sendKit d · 4))
        ∗ along chunks (outAny d) ∗ owesE d (left d 4))
      ⊢ iprop((((bigSep Finset.univ fun c : Fin 8 => accAny d c) ∗ (bigSep Finset.univ fun c : Fin 8 => outPts d c (A m ρ c 5 d))
            ∗ (bigSep Finset.univ fun c : Fin 8 => bigSep Finset.univ fun t : Fin 5 => doneKit d c t) ∗ owesE d 0) -∗ Q ⟨⟩)
        -∗ WP d (do
            each steps fun t => each chunks fun c => do
              waitOp c t.castSucc
              mixOp c t.castSucc
              sendOp (mate c t.succ d) c t.succ
            each chunks fun c => do
              waitOp c 4
              outOp c) Q) := by
  rw [steps_bind, ← bind_pure (each chunks fun c => waitOp c 4 >>= fun _ => outOp c)]
  iintro ⟨#Hc, Hs, ⟨Hw0, Hw1, Hw2, Hw3, Hw4⟩, ⟨Hn1, Hn2, Hn3, Hn4⟩, Ho, HO⟩ Hk
  iapply (step_rule m ρ K d 0 (left d 3) (above_left d 2 3 (by decide) (by decide)) _ Q) $$ [Hs Hw0 Hn1 HO]
  · isplitr; · iexact Hc
    isplitr [HO]
    · iapply (along_sep chunks _ _)
      isplitl [Hs]; · iexact Hs
      iapply (along_sep chunks _ _)
      isplitl [Hw0]; · iexact Hw0
      iexact Hn1
    iexact HO
  iintro ⟨H, HO⟩
  ihave H' := (along_unsep chunks _ _) $$ H
  icases H' with ⟨Hs, Hd0⟩
  iapply (step_rule m ρ K d 1 (left d 2) (above_left d 3 2 (by decide) (by decide)) _ Q) $$ [Hs Hw1 Hn2 HO]
  · isplitr; · iexact Hc
    isplitr [HO]
    · iapply (along_sep chunks _ _)
      isplitl [Hs]; · iexact Hs
      iapply (along_sep chunks _ _)
      isplitl [Hw1]; · iexact Hw1
      iexact Hn2
    iexact HO
  iintro ⟨H, HO⟩
  ihave H' := (along_unsep chunks _ _) $$ H
  icases H' with ⟨Hs, Hd1⟩
  iapply (step_rule m ρ K d 2 (left d 1) (above_left d 4 1 (by decide) (by decide)) _ Q) $$ [Hs Hw2 Hn3 HO]
  · isplitr; · iexact Hc
    isplitr [HO]
    · iapply (along_sep chunks _ _)
      isplitl [Hs]; · iexact Hs
      iapply (along_sep chunks _ _)
      isplitl [Hw2]; · iexact Hw2
      iexact Hn3
    iexact HO
  iintro ⟨H, HO⟩
  ihave H' := (along_unsep chunks _ _) $$ H
  icases H' with ⟨Hs, Hd2⟩
  iapply (step_rule m ρ K d 3 (left d 0) (above_left d 5 0 (by decide) (by decide)) _ Q) $$ [Hs Hw3 Hn4 HO]
  · isplitr; · iexact Hc
    isplitr [HO]
    · iapply (along_sep chunks _ _)
      isplitl [Hs]; · iexact Hs
      iapply (along_sep chunks _ _)
      isplitl [Hw3]; · iexact Hw3
      iexact Hn4
    iexact HO
  iintro ⟨H, HO⟩
  ihave H' := (along_unsep chunks _ _) $$ H
  icases H' with ⟨Hs, Hd3⟩
  iapply (lasts_rule m ρ K d pure Q) $$ [Hs Hw4 Ho HO]
  · isplitr; · iexact Hc
    isplitr [HO]
    · iapply (along_sep chunks _ _)
      isplitl [Hs]; · iexact Hs
      iapply (along_sep chunks _ _)
      isplitl [Hw4]; · iexact Hw4
      iexact Ho
    iexact HO
  iintro ⟨H, HO⟩
  ihave H' := (along_unsep chunks _ _) $$ H
  icases H' with ⟨Hd4, H⟩
  ihave H' := (along_unsep chunks _ _) $$ H
  icases H' with ⟨Ha, Ho⟩
  simp only [Prog.pure_eq_ret, wp_ret]
  imodintro
  iapply Hk
  rw [along_chunks, along_chunks, by_steps]
  isplitl [Ha]; · iexact Ha
  isplitl [Ho]; · iexact Ho
  isplitr [HO]
  · isplitl [Hd0]; · iexact Hd0
    isplitl [Hd1]; · iexact Hd1
    isplitl [Hd2]; · iexact Hd2
    isplitl [Hd3]; · iexact Hd3
    iexact Hd4
  iexact HO

/-- The whole body over the mesh's partners. -/
theorem mesh_rule (d : Dev nD) (Q : PUnit → sProp 𝕄) :
    iprop(ctx m ρ K ∗ bodyIn d ∗ operands m ρ d)
      ⊢ iprop(((bodyOut m ρ d ∗ operands m ρ d) -∗ Q ⟨⟩) -∗ WP d meshBody Q) := by
  unfold bodyIn operands meshBody
  iintro ⟨#Hc, ⟨Hsig, Hbar, Hacc, Hout, Htok, Hw, HO⟩, Hx, Hw1, Hw2⟩ Hk
  simp only [Prog.lift, Prog.bind_op, Prog.bind_ret, wp_deviceId]
  rw [O₀_eq]
  iapply (signals_rule m ρ K d _ _ Q) $$ [Hsig HO]
  · isplitr; · iexact Hc
    isplitl [Hsig]; · iapply (Entails.of_eq (along_partners _)); iexact Hsig
    iexact HO
  iintro ⟨-, HO⟩
  iapply (load_rule d xM _ _ _ _ (Memref.readAt_unit_zero (Elt F) cc0_stg0_0 hz _ _) _ Q) $$ Hx; iintro Hx
  iapply (load_rule d w1M _ _ _ _ (Memref.readAt_unit_zero (Elt F) cc0_stg1_0 hz _ _) _ Q) $$ Hw1; iintro Hw1
  iapply (load_rule d w2M _ _ _ _ (Memref.readAt_unit_zero (Elt F) cc0_stg2_0 hz _ _) _ Q) $$ Hw2; iintro Hw2
  ihave Hacc' := (Entails.of_eq (along_chunks _)) $$ Hacc
  ihave Hacc'' := (show along chunks (fun c => (accAny d c : sProp 𝕄)) ⊢ iprop(accAny d 0 ∗ along chunks' fun c => accAny d c) from .rfl) $$ Hacc'
  icases Hacc'' with ⟨Ha0, Has⟩
  iapply (firstOp_rule d 0 _ _ _ _ Q) $$ Ha0
  iintro Ha0
  iapply (barrier_rule m ρ K d _ (above_add (above_add (above_left d 1 4 (by decide) (by decide)) (holds_sum (due d · 0) (Above 1)
    (fun c O h => above_add h (above_due d c 0 (by decide))) chunks' 0 (above_zero 1) |> fun h => by rw [zero_add] at h; exact h))
    (above_due d 0 0 (by decide))) _ Q) $$ [Hbar HO]
  · isplitr; · iexact Hc
    isplitl [Hbar] <;> iassumption
  iintro ⟨Hslots, Hz, HO⟩
  ihave Hkits := (kits_intro d) $$ [Htok Hslots]
  · isplitl [Htok] <;> iassumption
  ihave Hkits' := (Entails.of_eq (by_steps _)) $$ Hkits
  icases Hkits' with ⟨Hn0, Hn⟩
  ihave Hn0' := (show along chunks (fun c => (sendKit d c 0 : sProp 𝕄)) ⊢ iprop(sendKit d 0 0 ∗ along chunks' fun c => sendKit d c 0) from .rfl) $$ Hn0
  icases Hn0' with ⟨Hn00, Hn0⟩
  iapply (sendOp_rule m ρ K d 0 0 _ _ Q) $$ [Ha0 Hn00 HO]
  · isplitr; · iexact Hc
    isplitl [Ha0 Hn00]
    · isplitl [Ha0]; · iexact Ha0
      iexact Hn00
    iexact HO
  iintro ⟨Hs0, HO⟩
  iapply (firsts_rule m ρ K d _ _ Q) $$ [Has Hn0 HO]
  · isplitr; · iexact Hc
    isplitr [HO]
    · iapply (along_sep chunks' _ _)
      isplitl [Has]; · iexact Has
      iexact Hn0
    iexact HO
  iintro ⟨Hss, HO⟩
  iapply (exchange_rule m ρ K d Q) $$ [Hs0 Hss Hn Hw Hout HO]
  · isplitr; · iexact Hc
    isplitl [Hs0 Hss]
    · iapply (show iprop(sent d 0 0 ∗ along chunks' fun c => (sent d c 0 : sProp 𝕄)) ⊢ along chunks (sent d · 0) from .rfl)
      isplitl [Hs0] <;> iassumption
    isplitl [Hw]; · iapply (Entails.of_eq (by_steps _)); iexact Hw
    isplitl [Hn]; · iexact Hn
    isplitl [Hout]; · iapply (Entails.of_eq (along_chunks _)); iexact Hout
    iexact HO
  iintro ⟨Ha, Ho, Hd, HO⟩
  iapply Hk
  unfold bodyOut
  isplitr [Hx Hw1 Hw2]
  · isplitl [Hz]; · iexact Hz
    isplitl [Ha]; · iexact Ha
    isplitl [Ho]; · iexact Ho
    isplitl [Hd] <;> iassumption
  isplitl [Hx]; · iexact Hx
  isplitl [Hw1]; · iexact Hw1
  iexact Hw2

end Cert.AllReduce

end
-- ==== Proof.Launch.lean ====
/-
The run of the whole mesh.

Every device's core is started with its positions at its own cells, the tokens of the duties it pays, the credits it waits
for and the levels; the body takes these to its result and to all its counters at zero.
-/
module

public import proofs.«01_k».proof.Proof.Body
public import Idealize.ShloMosaic.Lib.Pipeline.CollectiveSegs

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from -/

/-- The tokens of the duties device `d` pays. -/
def payToks (d : Dev nD) : sProp 𝕄 :=
  iprop((bigSep Finset.univ fun s : Fin 5 => dutyTok ER (barCell (peer s d)) 0 s)
    ∗ (bigSep Finset.univ fun p : Slot => dutyTok ER (sendCell d p.1 p.2) 0 0)
    ∗ bigSep Finset.univ fun p : Slot => dutyTok ER (recvCell (mate p.1 p.2 d) p.1 p.2) 0 0)
/-- The tokens of its own cells' duties. -/
def toks (d : Dev nD) : sProp 𝕄 :=
  iprop((bigSep Finset.univ fun s : Fin 5 => dutyTok ER (barCell d) 0 s)
    ∗ (bigSep Finset.univ fun p : Slot => dutyTok ER (sendCell d p.1 p.2) 0 0)
    ∗ bigSep Finset.univ fun p : Slot => dutyTok ER (recvCell d p.1 p.2) 0 0)
/-- Its positions at its own cells, and the tokens it pays with. -/
def linear (d : Dev nD) : sProp 𝕄 :=
  iprop((bigSep Finset.univ fun k : Kx => atPos ER (kcell (d, k)) 0 ∅ 0) ∗ payToks d)
/-- The credits it waits for. -/
def credits (d : Dev nD) : sProp 𝕄 :=
  iprop(cred (tallyAt (barCell d) () 5) ∗ bigSep Finset.univ fun p : Slot => cred (tallyAt (recvCell d p.1 p.2) () N))

/-- All that a device is started with, beside its buffers. -/
def start (d : Dev nD) : sProp 𝕄 :=
  iprop((∃ K, records m ρ K ∗ linear d) ∗ credits d ∗ levAts L lv)

/-- The accumulator and the receive buffer, at any contents. -/
def scratch (d : Dev nD) : sProp 𝕄 :=
  iprop((∃ f : Buf (Elt F) ((d : Thread nD τ).loc cc0_scratch0), ((d : Thread nD τ).loc cc0_scratch0) ↦{fullShare} f)
    ∗ ∃ f : Buf (Elt F) ((d : Thread nD τ).loc cc0_scratch1), ((d : Thread nD τ).loc cc0_scratch1) ↦{fullShare} f)

/-- The scoped semaphores of a device, all at zero. -/
abbrev ownZero (d : Dev nD) : sProp 𝕄 := Pipeline.ownSems0 (Ix := Unit) (Name := ℕ) (U := UU) (Lvl := ℕ) (Val := Elt F) (τ := τ) osem d

omit [FloatOps F] in
/-- They are the send and the receive semaphores. -/
theorem ownZero_eq (d : Dev nD) : (ownZero d : sProp 𝕄)
    = iprop((bigSep Finset.univ fun p : Slot => semVal (sendCell d p.1 p.2) 0) ∗ bigSep Finset.univ fun p : Slot => semVal (recvCell d p.1 p.2) 0) := by
  unfold ownZero Pipeline.ownSems0
  exact bigSep_univ_sum _
omit [FloatOps F] in
/-- The barrier semaphore is the launch's one unscoped semaphore. -/
theorem unscopedSems0_eq (d : Dev nD) : (unscopedSems0 d : sProp 𝕄) = semVal (barCell d) 0 := by
  unfold unscopedSems0; rw [bigSep_eq_bigSepL_of_eq [SemLoc.reg barS] (by decide) (by decide)]; rfl

omit [FloatOps F] in
/-- Something held for every cell of a device, kind by kind. -/
theorem by_kind (Φ : Kx → sProp 𝕄) : bigSep Finset.univ Φ
    = iprop(Φ ixBar ∗ (bigSep Finset.univ fun p : Slot => Φ (ixSend p.1 p.2)) ∗ bigSep Finset.univ fun p : Slot => Φ (ixRecv p.1 p.2)) := by
  rw [bigSep_univ_sum, bigSep_univ_sum, show (Finset.univ : Finset Unit) = {()} from rfl, bigSep_singleton]
  rfl

/-- What the body starts from. -/
def Φ₀ (d : Dev nD) : sProp 𝕄 := iprop(start m ρ d ∗ scratch d)
/-- After the body: the scratch buffers, the own semaphores and the barrier semaphore at zero. -/
def Φ₁ (d : Dev nD) : sProp 𝕄 := iprop(scratch d ∗ ownZero d ∗ semVal (barCell d) 0)

/-- What each window holds before, during and after the one point. -/
def dats (_ : Fin 1) (d : Dev nD) : Dat τ (Elt F) Unit ℕ UU ℕ cfg0 d where
  A w := (s₀ m ρ).mem ((cfg0.win w).arr.view.loc (d : Thread nD τ))
  after w _ := match w with
    | ⟨0, _⟩ => xAt m ρ d
    | ⟨1, _⟩ => w1At m ρ d
    | ⟨2, _⟩ => w2At m ρ d
    | ⟨3, _⟩ => outAt m ρ d
  Φ t := match t with
    | ⟨0, _⟩ => Φ₀ m ρ d
    | ⟨_ + 1, _⟩ => Φ₁ d
  q _ := fullShare
  owed t := match t with
    | ⟨0, _⟩ => O₀ d
    | ⟨_ + 1, _⟩ => 0

/-! ## The body's obligation -/

/-- The grid has one point. -/
theorem cfg0_N : cfg0.N = 1 := by decide
/-- The one point. -/
def t₀ : Fin cfg0.N := ⟨0, by rw [cfg0_N]; decide⟩
/-- Every point is that one. -/
theorem fin_N (t : Fin cfg0.N) : t = t₀ := by
  obtain ⟨t, ht⟩ := t; have := cfg0_N; exact Fin.ext (by simp only [t₀]; omega)
/-- The input is fetched at it. -/
theorem fetch_0 (t : Fin cfg0.N) : (cfg0.win (0 : Fin 4)).fetch t = true := by rw [fin_N t]; rfl
/-- So are the first weights, -/
theorem fetch_1 (t : Fin cfg0.N) : (cfg0.win (1 : Fin 4)).fetch t = true := by rw [fin_N t]; rfl
/-- and the second. -/
theorem fetch_2 (t : Fin cfg0.N) : (cfg0.win (2 : Fin 4)).fetch t = true := by rw [fin_N t]; rfl

omit [FloatOps F] in
/-- Owning a whole buffer that reads as `X` is owning it at `X`. -/
theorem owns_whole_eq (d : Dev nD) (b : Ref sig .tc) (X : b.ty.Contents (Elt F)) :
    (owns (Ix := Unit) (Name := ℕ) (U := UU) (Lvl := ℕ) (d : Thread nD τ) (Memref.whole b) fullShare X : sProp 𝕄)
      = iprop(∃ f : Buf (Elt F) ((d : Thread nD τ).loc b), ⌜f = X⌝ ∗ (((d : Thread nD τ).loc b) ↦{fullShare} f)) := by
  unfold owns; simp only [Memref.view_whole, View.read_whole, View.set_whole]

/-- A staging buffer at its contents. -/
abbrev stg (d : Dev nD) (b : Ref sig .tc) (X : b.ty.Contents (Elt F)) : sProp 𝕄 :=
  iprop(∃ f : Buf (Elt F) ((d : Thread nD τ).loc b), ⌜f = X⌝ ∗ (((d : Thread nD τ).loc b) ↦{fullShare} f))

/-- What the body is given. -/
def bodyPre (d : Dev nD) : sProp 𝕄 :=
  iprop(Φ₀ m ρ d ∗ (dats m ρ 0 d).owesAt () t₀.castSucc
    ∗ (∃ g, stg d cc0_stg0_0 ((dats m ρ 0 d).before (0 : Fin 4) t₀ g))
    ∗ (∃ g, stg d cc0_stg1_0 ((dats m ρ 0 d).before (1 : Fin 4) t₀ g))
    ∗ (∃ g, stg d cc0_stg2_0 ((dats m ρ 0 d).before (2 : Fin 4) t₀ g))
    ∗ (∃ g, stg d cc0_stg3_0 ((dats m ρ 0 d).before (3 : Fin 4) t₀ g)))
/-- What the body leaves. -/
def bodyPost (d : Dev nD) : sProp 𝕄 :=
  iprop(Φ₁ d ∗ (dats m ρ 0 d).owesAt () t₀.succ ∗ stg d cc0_stg0_0 (xAt m ρ d) ∗ stg d cc0_stg1_0 (w1At m ρ d) ∗ stg d cc0_stg2_0 (w2At m ρ d)
    ∗ stg d cc0_stg3_0 (outAt m ρ d))

omit [FloatOps F] in
/-- What a device starts from, as the body takes it. -/
theorem body_in (d : Dev nD) :
    iprop(linear d ∗ credits d ∗ (bigSep Finset.univ fun p : Slot => recAny d p.1 p.2) ∗ (bigSep Finset.univ fun c : Fin 8 => accAny d c)
        ∗ (bigSep Finset.univ fun c : Fin 8 => outAny d c) ∗ owesE d (O₀ d))
      ⊢ (bodyIn d : sProp 𝕄) := by
  have htok : (bigSep Finset.univ fun c : Fin 8 => bigSep Finset.univ fun t : Fin 5 => (tokKit d c t : sProp 𝕄))
      = iprop((bigSep Finset.univ fun p : Slot => dutyTok ER (sendCell d p.1 p.2) 0 0)
        ∗ bigSep Finset.univ fun p : Slot => dutyTok ER (recvCell (mate p.1 p.2 d) p.1 p.2) 0 0) := by
    rw [← bigSep_univ_prod (fun p : Slot => (tokKit d p.1 p.2 : sProp 𝕄)), ← bigSep_sep']
    rfl
  have hwait : (bigSep Finset.univ fun c : Fin 8 => bigSep Finset.univ fun t : Fin 5 => (waitKit d c t : sProp 𝕄))
      = iprop((bigSep Finset.univ fun p : Slot => atPos ER (sendCell d p.1 p.2) 0 ∅ 0)
        ∗ (bigSep Finset.univ fun p : Slot => atPos ER (recvCell d p.1 p.2) 0 ∅ 0)
        ∗ bigSep Finset.univ fun p : Slot => cred (tallyAt (recvCell d p.1 p.2) () N)) := by
    rw [← bigSep_univ_prod (fun p : Slot => (waitKit d p.1 p.2 : sProp 𝕄)), ← bigSep_sep', ← bigSep_sep']
    rfl
  unfold bodyIn linear credits payToks
  rw [htok, hwait, bigSep_sep', slots_barPay, by_kind]
  iintro ⟨⟨⟨HB, HS, HV⟩, Htb, Hts, Htr⟩, ⟨Hcb, Hcr⟩, Hrec, Hacc, Hout, HO⟩
  isplitl [Htb Hrec]
  · isplitl [Htb]; · iexact Htb
    iexact Hrec
  isplitl [HB Hcb]
  · isplitl [HB]; · iexact HB
    iexact Hcb
  isplitl [Hacc]; · iexact Hacc
  isplitl [Hout]; · iexact Hout
  isplitl [Hts Htr]
  · isplitl [Hts]; · iexact Hts
    iexact Htr
  isplitl [HS HV Hcr]
  · isplitl [HS]; · iexact HS
    isplitl [HV]; · iexact HV
    iexact Hcr
  iexact HO

omit [FloatOps F] in
/-- The finished waits: the own semaphores at zero, and all landing slots. -/
theorem done_out (d : Dev nD) : (bigSep Finset.univ fun c : Fin 8 => bigSep Finset.univ fun t : Fin 5 => (doneKit d c t : sProp 𝕄))
    ⊢ iprop(ownZero d ∗ bigSep Finset.univ fun p : Slot => recAny d p.1 p.2) := by
  have h : (bigSep Finset.univ fun c : Fin 8 => bigSep Finset.univ fun t : Fin 5 => (doneKit d c t : sProp 𝕄))
      = iprop((bigSep Finset.univ fun p : Slot => semVal (sendCell d p.1 p.2) 0) ∗ (bigSep Finset.univ fun p : Slot => semVal (recvCell d p.1 p.2) 0)
        ∗ bigSep Finset.univ fun p : Slot => recAny d p.1 p.2) := by
    rw [← bigSep_univ_prod (fun p : Slot => (doneKit d p.1 p.2 : sProp 𝕄)), ← bigSep_sep', ← bigSep_sep']
    rfl
  rw [h, ownZero_eq]
  iintro ⟨H1, H2, H3⟩
  isplitr [H3]
  · isplitl [H1] <;> iassumption
  iexact H3

/-- The body from what a device starts with to what it ends with. -/
theorem sound_body (d : Dev nD) : bodyPre m ρ d ⊢ WP d (theBody (F := F)) fun _ => bodyPost m ρ d := by
  rw [body_mesh]
  unfold bodyPre Φ₀ start scratch
  iintro ⟨⟨⟨⟨%K, #Hrc, Hlin⟩, Hcr, #Hlev⟩, ⟨%fa, Hacc⟩, ⟨%fr, Hrec⟩⟩, Ho, ⟨%d0, %g0, %hg0, Hx⟩, ⟨%d1, %g1, %hg1, Hw1⟩, ⟨%d2, %g2, %hg2, Hw2⟩, ⟨%d3, %g3, -, Hout⟩⟩
  have h0 : g0 = xAt m ρ d := by rw [hg0]; unfold Dat.before; rw [if_pos (fetch_0 t₀)]; rfl
  have h1 : g1 = w1At m ρ d := by rw [hg1]; unfold Dat.before; rw [if_pos (fetch_1 t₀)]; rfl
  have h2 : g2 = w2At m ρ d := by rw [hg2]; unfold Dat.before; rw [if_pos (fetch_2 t₀)]; rfl
  subst h0; subst h1; subst h2
  unfold Dat.owesAt Pipeline.owesWithin
  icases Ho with ⟨%W, %hW, HO⟩
  rw [show (dats m ρ 0 d).owed t₀.castSucc = O₀ d from rfl]
  ihave Hacc' := (acc_split d fa) $$ Hacc
  ihave Hrec' := (rec_split d fr) $$ Hrec
  ihave Hout' := (out_split d g3) $$ Hout
  ihave Hin := (body_in (F := F) d) $$ [Hlin Hcr Hacc' Hrec' Hout' HO]
  · isplitl [Hlin]; · iexact Hlin
    isplitl [Hcr]; · iexact Hcr
    isplitl [Hrec']; · iexact Hrec'
    isplitl [Hacc']; · iexact Hacc'
    isplitl [Hout']; · iexact Hout'
    unfold owesE; iexists W; iexact HO
  iapply (mesh_rule m ρ K d fun _ => bodyPost m ρ d) $$ [Hin Hx Hw1 Hw2]
  · isplitr
    · unfold ctx; isplitr; · iexact Hrc
      iexact Hlev
    isplitl [Hin]; · iexact Hin
    unfold operands
    isplitl [Hx]; · iexact Hx
    isplitl [Hw1]; · iexact Hw1
    iexact Hw2
  unfold bodyOut operands bodyPost Φ₁ scratch owesE Dat.owesAt Pipeline.owesWithin
  rw [show (dats m ρ 0 d).owed t₀.succ = 0 from rfl]
  iintro ⟨⟨HzB, Hacc, Hout, Hdone, ⟨%W', HO⟩⟩, Hx, Hw1, Hw2⟩
  ihave Hd := (done_out (F := F) d) $$ Hdone
  icases Hd with ⟨Hown, Hrec⟩
  isplitl [HzB Hacc Hown Hrec]
  · isplitl [Hacc Hrec]
    · isplitl [Hacc]; · iapply (acc_join d fa); iexact Hacc
      iapply (rec_join d fr); iexact Hrec
    isplitl [Hown]; · iexact Hown
    iexact HzB
  isplitl [HO]
  · iexists W'
    isplitr; · ipureintro; exact fun _ _ => Or.inl trivial
    iexact HO
  isplitl [Hx]
  · iexists _; isplitr; · (ipureintro; rfl)
    iexact Hx
  isplitl [Hw1]
  · iexists _; isplitr; · (ipureintro; rfl)
    iexact Hw1
  isplitl [Hw2]
  · iexists _; isplitr; · (ipureintro; rfl)
    iexact Hw2
  iexists _; isplitr; · (ipureintro; rfl)
  iapply (out_join d fun c => A m ρ c 5 d); iexact Hout

set_option maxRecDepth 65536 in
/-- The body takes what it is given to what it has to leave. -/
theorem body_obligation (d : Dev nD) : BodyObligation (dats (F := F) m ρ 0 d) (defs₀ (F := F)) 𝒱₀ () Set.univ := fun t => by
  rw [fin_N t]
  rw [show (bigSep Finset.univ : (Fin cfg0.W → sProp 𝕄) → sProp 𝕄) = fun Φ => iprop(Φ (0 : Fin 4) ∗ Φ (1 : Fin 4) ∗ Φ (2 : Fin 4) ∗ Φ (3 : Fin 4)) from funext bigSep_W0]
  simp only [owns_whole_eq]
  show bodyPre m ρ d ⊢ WP d (theBody (F := F)) fun _ => bodyPost m ρ d
  exact sound_body m ρ d

/-! ## The launch -/

set_option maxRecDepth 65536 in
/-- The scoped semaphores are the send and the receive semaphores, each once. -/
theorem ownSemFacts : Pipeline.OwnSemFacts cfg0.spec osem where
  isScoped := by decide +kernel
  inj := fun a b h => by
    have h' := congrArg role h
    rcases a with ⟨c, t⟩ | ⟨c, t⟩ <;> rcases b with ⟨c', t'⟩ | ⟨c', t'⟩ <;>
      simp only [osem, role_send, role_recv, Role.send.injEq, Role.recv.injEq, reduceCtorEq] at h'
    · rw [h'.1, h'.2]
    · rw [h'.1, h'.2]
  disj := by decide +kernel

/-- Every window's array is owned whole. -/
theorem share_eq (d : Dev nD) (w : Fin cfg0.W) : (dats m ρ 0 d).share w = fullShare := by unfold Dat.share; split <;> rfl

/-- Different indices name different semaphores. -/
theorem csem_injective : Function.Injective (csem : Kx → SemLoc sig) := by
  rintro (⟨⟩ | a) (⟨⟩ | b) h
  · rfl
  · have h' := congrArg role h
    rcases b with ⟨c, t⟩ | ⟨c, t⟩ <;> simp only [csem, osem, role_bar, role_send, role_recv, reduceCtorEq] at h'
  · have h' := congrArg role h
    rcases a with ⟨c, t⟩ | ⟨c, t⟩ <;> simp only [csem, osem, role_bar, role_send, role_recv, reduceCtorEq] at h'
  · rw [ownSemFacts.inj h]

/-- One cell belongs to one device and one semaphore. -/
theorem dev_of_cell {d d' : Dev nD} {s s' : SemLoc sig} (h : ((d : Thread nD τ), s) = (((d' : Thread nD τ), s') : GSem nD τ sig)) : d = d' :=
  congrArg (fun g : GSem nD τ sig => g.1.1) h

/-- Different indices name different cells. -/
theorem kcell_injective : Function.Injective (kcell : Dev nD × Kx → GSem nD τ sig) := by
  rintro ⟨d, k⟩ ⟨d', k'⟩ h
  exact Prod.ext (dev_of_cell h) (csem_injective (congrArg Prod.snd h))
/-- All cells of the mesh. -/
def cells : Finset (GSem nD τ sig) := Finset.univ.map ⟨kcell, kcell_injective⟩

/-- The duties of a device's own cells: the barrier's five, one for each send and each receive cell. -/
abbrev Duty : Type := Fin 5 ⊕ (Slot ⊕ Slot)
/-- The cell a duty belongs to. -/
abbrev dutyCell : Duty → Kx
  | .inl _ => ixBar
  | .inr p => .inr p
/-- A duty's name in its cell's round. -/
abbrev dutyName : Duty → Fin 5
  | .inl s => s
  | .inr _ => 0
/-- The cell, round and name of a duty. -/
abbrev tokOf (q : Dev nD × Duty) : GSem nD τ sig × ℕ × Fin 5 := (kcell (q.1, dutyCell q.2), 0, dutyName q.2)
/-- Different duties have different tokens. -/
theorem tokOf_injective : Function.Injective (tokOf : Dev nD × Duty → GSem nD τ sig × ℕ × Fin 5) := by
  rintro ⟨d, k⟩ ⟨d', k'⟩ h
  have hk := kcell_injective (congrArg Prod.fst h)
  have h1 : d = d' := congrArg Prod.fst hk
  have h2 : dutyCell k = dutyCell k' := congrArg Prod.snd hk
  have h3 : dutyName k = dutyName k' := congrArg (fun x : GSem nD τ sig × ℕ × Fin 5 => x.2.2) h
  subst h1
  rcases k with s | p <;> rcases k' with s' | p'
  · exact congrArg _ (congrArg _ h3)
  · cases h2
  · cases h2
  · exact congrArg _ (congrArg _ (Sum.inr.inj h2))
/-- All duties of the mesh. -/
def duties : Finset (GSem nD τ sig × ℕ × Fin 5) := Finset.univ.map ⟨tokOf, tokOf_injective⟩

/-- The resources the run starts with. -/
def u₀ : UU :=
  (initOf (Pipeline.cells cfgs cellOf_inj) (Pipeline.launchToks cfgs cellOf_inj), initOf cells duties)

/-- What the launch deals device `d`; -/
def G (d : Dev nD) : sProp 𝕄 :=
  iprop((bigSep Finset.univ fun k : Kx => roundState ER (sched m ρ) (kcell (d, k)) 0)
    ∗ (bigSep Finset.univ fun k : Kx => iprop(atPos ER (kcell (d, k)) 0 ∅ 0 ∗ reached ER (kcell (d, k)) 0)) ∗ toks d)
/-- what it has once the cells of all devices are set up. -/
def G' (d : Dev nD) : sProp 𝕄 := iprop(∃ K, records m ρ K ∗ linear d)

/-- The resources of the exchange give every device its cells, positions and tokens. -/
theorem fund_cells : BI.own (ER (initOf cells duties)) ⊢ (|==> bigSep Finset.univ (G m ρ) : sProp 𝕄) := by
  have hX (Φ : GSem nD τ sig → sProp 𝕄) : bigSep cells Φ = bigSep Finset.univ fun d : Dev nD => bigSep Finset.univ fun k : Kx => Φ (kcell (d, k)) := by
    unfold cells; rw [bigSep_map, bigSep_univ_prod]; rfl
  have hT : bigSep duties (fun x => (dutyTok ER x.1 x.2.1 x.2.2 : sProp 𝕄)) = bigSep Finset.univ fun d : Dev nD => toks d := by
    unfold duties; rw [bigSep_map, bigSep_univ_prod]
    refine bigSep_congr fun d _ => ?_
    unfold toks; rw [bigSep_univ_sum, bigSep_univ_sum]; rfl
  iintro HX
  imod (Rounds.fund ER (sched m ρ) cells duties) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- A device's counters are all at zero at the start. -/
theorem zeros (d : Dev nD) : iprop(ownZero d ∗ unscopedSems0 d) ⊢ (bigSep Finset.univ fun k : Kx => semVal (kcell (d, k)) 0 : sProp 𝕄) := by
  rw [ownZero_eq, unscopedSems0_eq, by_kind]
  iintro ⟨⟨HS, HV⟩, HB⟩
  isplitl [HB]; · iexact HB
  isplitl [HS] <;> iassumption

/-- A device's counters at zero become its cells' invariants. -/
theorem core_alloc (d : Dev nD) :
    iprop(ownZero d ∗ unscopedSems0 d ∗ G m ρ d)
      ⊢ |={Set.univ}=> iprop((bigSep Finset.univ fun k => iprop(∃ κ : ℕ, cellInv ER (sched m ρ) κ (kcell (d, k))))
          ∗ (bigSep Finset.univ fun k => iprop(atPos ER (kcell (d, k)) 0 ∅ 0 ∗ reached ER (kcell (d, k)) 0)) ∗ toks d) := by
  unfold G
  iintro ⟨Hos, Hus, Hst, Hat, Htok⟩
  ihave Hv := (zeros (F := F) d) $$ [Hos Hus]
  · isplitl [Hos] <;> iassumption
  imod (show iprop((bigSep Finset.univ fun k : Kx => semVal (kcell (d, k)) 0) ∗ bigSep Finset.univ fun k : Kx => roundState ER (sched m ρ) (kcell (d, k)) 0)
      ⊢ (|={Set.univ}=> bigSep Finset.univ fun k => iprop(∃ κ : ℕ, cellInv ER (sched m ρ) κ (kcell (d, k))) : sProp 𝕄) from by
        rw [← bigSep_sep']
        exact (bigSep_mono fun k _ => (Rounds.body_intro ER (sched m ρ) (kcell (d, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Something held of every device for every index, with the devices permuted for each index. -/
theorem permuted {I : Type} [Fintype I] [DecidableEq I] (e : I → Dev nD ≃ Dev nD) (Φ : I → Dev nD → sProp 𝕄) :
    (bigSep Finset.univ fun d : Dev nD => bigSep Finset.univ fun i : I => Φ i d)
      = bigSep Finset.univ fun d : Dev nD => bigSep Finset.univ fun i : I => Φ i (e i d) := by
  rw [bigSep_univ_comm, bigSep_univ_comm (fun (d : Dev nD) (i : I) => Φ i (e i d))]
  exact bigSep_congr fun i _ => bigSep_univ_equiv (e i) (Φ i)

omit [FloatOps F] in
/-- The tokens dealt to the devices that pay. -/
theorem toks_around : (bigSep Finset.univ fun d : Dev nD => (toks d : sProp 𝕄)) = bigSep Finset.univ fun d : Dev nD => payToks d := by
  unfold toks payToks
  rw [bigSep_sep', bigSep_sep', bigSep_sep', bigSep_sep',
    permuted (fun s : Fin 5 => swap s) (fun s d => dutyTok ER (barCell d) 0 s),
    permuted (fun p : Slot => swap (p.2 + ph p.1)) (fun p d => dutyTok ER (recvCell d p.1 p.2) 0 0)]
  rfl

omit [FloatOps F] in
/-- What can be used any number of times can be handed to every piece. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The tokens go from the devices whose cells they pay to the devices that pay them. -/
theorem regroup :
    (bigSep Finset.univ fun d : Dev nD => iprop((bigSep Finset.univ fun k => iprop(∃ κ : ℕ, cellInv ER (sched m ρ) κ (kcell (d, k))))
          ∗ (bigSep Finset.univ fun k => iprop(atPos ER (kcell (d, k)) 0 ∅ 0 ∗ reached ER (kcell (d, k)) 0)) ∗ toks d) : sProp 𝕄)
      ⊢ bigSep Finset.univ (G' m ρ) := by
  rw [bigSep_sep', bigSep_sep', ← bigSep_univ_prod (fun ck : Dev nD × Kx => iprop(∃ κ : ℕ, cellInv ER (sched m ρ) κ (kcell ck))),
    bigSep_congr (s := Finset.univ) (fun (d : Dev nD) _ => bigSep_sep' Finset.univ (fun k : Kx => (atPos ER (kcell (d, k)) 0 ∅ 0 : sProp 𝕄)) (fun k => reached ER (kcell (d, k)) 0)),
    bigSep_sep', ← bigSep_univ_prod (fun ck : Dev nD × Kx => (reached ER (kcell ck) 0 : sProp 𝕄)), toks_around]
  iintro ⟨HI, ⟨Hat, #HR⟩, Htok⟩
  ihave HK := (BI.bigSep_exists_pi Finset.univ (fun (ck : Dev nD × Kx) (κ : ℕ) => (cellInv ER (sched m ρ) κ (kcell ck) : sProp 𝕄))) $$ HI
  icases HK with ⟨%K, #HI⟩
  iapply (bigSep_with_persistent (R := records m ρ K) (Φ := fun d => linear d) fun d _ => show iprop(records m ρ K ∗ linear d) ⊢ G' m ρ d from by
    unfold G'; iintro H; iexists K; iexact H)
  isplitr
  · unfold records; isplitl; · iexact HI
    iexact HR
  · unfold linear
    rw [bigSep_sep']
    isplitl [Hat]; · iexact Hat
    iexact Htok

/-- All devices' cells are set up at once. -/
theorem glob : (bigSep Finset.univ fun d => iprop(ownZero d ∗ unscopedSems0 d ∗ G m ρ d) : sProp 𝕄)
    ⊢ |={Set.univ}=> bigSep Finset.univ (G' m ρ) :=
  ((bigSep_mono fun d _ => core_alloc m ρ d).trans (bigSep_fupd _ _)).trans (BI.fupd_mono (regroup m ρ))

/-! ## The credits -/

/-- Two receive cells are one when device, chunk and step agree. -/
theorem recvCell_iff {d d' : Dev nD} {c c' : Fin 8} {t t' : Fin 5} : recvCell d c t = recvCell d' c' t' ↔ d = d' ∧ c = c' ∧ t = t' :=
  ⟨fun h => by
    have h' := congrArg (fun g : GSem nD τ sig => role g.2) h
    simp only [role_recv, Role.recv.injEq] at h'
    exact ⟨dev_of_cell h, h'⟩, fun ⟨h1, h2, h3⟩ => by rw [h1, h2, h3]⟩
/-- A receive cell is no barrier cell. -/
theorem recv_ne_bar (d d' : Dev nD) (c : Fin 8) (t : Fin 5) : recvCell d c t ≠ barCell d' := fun h => by
  have h' := congrArg Prod.snd h
  cases h'

/-- A sum over devices and indices, with the devices permuted for each index. -/
theorem sum_permuted {I : Type} [Fintype I] (e : I → Dev nD ≃ Dev nD) (f : I → Dev nD → ℕ) :
    ∑ d, ∑ i, f i (e i d) = ∑ d, ∑ i, f i d :=
  Finset.sum_comm.trans ((Finset.sum_congr rfl fun i _ => Equiv.sum_comp (e i) (f i)).trans Finset.sum_comm)

/-- What a device owes a cell at the start. -/
theorem O₀_apply (d : Dev nD) (g : GSem nD τ sig) : O₀ d g ()
    = (∑ p : Slot, due d p.1 p.2 g ()) + ∑ s : Fin 5, dueBar d s g () := by
  unfold O₀
  rw [Fintype.sum_prod_type]
  simp only [Pi.add_apply, Finset.sum_apply, Finsupp.add_apply, Finsupp.finset_sum_apply]

/-- All devices together owe each barrier cell five units and each receive cell one copy's credit. -/
theorem owed_all (g : GSem nD τ sig) : ∑ d, O₀ d g ()
    = (∑ d, ∑ p : Slot, (tallyAt (recvCell d p.1 p.2) () N : CellTallies nD τ sig Unit) g ())
      + ∑ d, ∑ s : Fin 5, (tallyAt (barCell d) () 1 : CellTallies nD τ sig Unit) g () := by
  rw [Finset.sum_congr rfl fun d _ => O₀_apply d g, Finset.sum_add_distrib]
  exact congrArg₂ _ (sum_permuted (fun p : Slot => swap (p.2 + ph p.1)) fun p d => (tallyAt (recvCell d p.1 p.2) () N : CellTallies nD τ sig Unit) g ())
    (sum_permuted (fun s : Fin 5 => swap s) fun s d => (tallyAt (barCell d) () 1 : CellTallies nD τ sig Unit) g ())

/-- All devices together owe each barrier cell five units, -/
theorem owed_bar (d : Dev nD) : ∑ d', O₀ d' (barCell d) () = 5 := by
  rw [owed_all, Finset.sum_eq_zero fun d' _ => Finset.sum_eq_zero fun p _ => by
      rw [tallyAt_ne_cell (recv_ne_bar d' d p.1 p.2).symm]; rfl, zero_add,
    Finset.sum_eq_single d (fun d' _ h => Finset.sum_eq_zero fun s _ => by
      rw [tallyAt_apply, if_neg fun h' => h (dev_of_cell h'.1).symm]) (fun h => absurd (Finset.mem_univ d) h),
    Finset.sum_congr rfl fun s _ => by rw [tallyAt_apply, if_pos ⟨rfl, rfl⟩]]
  rfl

/-- and each receive cell the amount of one copy. -/
theorem owed_recv (d : Dev nD) (c : Fin 8) (t : Fin 5) : ∑ d', O₀ d' (recvCell d c t) () = N := by
  rw [owed_all, Finset.sum_eq_zero (s := Finset.univ) (f := fun d' => ∑ s : Fin 5, (tallyAt (barCell d') () 1 : CellTallies nD τ sig Unit) (recvCell d c t) ())
      fun d' _ => Finset.sum_eq_zero fun s _ => by rw [tallyAt_ne_cell (recv_ne_bar d d' c t)]; rfl, add_zero,
    Finset.sum_eq_single d (fun d' _ h => Finset.sum_eq_zero fun p _ => by
      rw [tallyAt_apply, if_neg fun h' => h (recvCell_iff.mp h'.1).1.symm]) (fun h => absurd (Finset.mem_univ d) h),
    Finset.sum_eq_single (c, t) (fun p _ h => by
      rw [tallyAt_apply, if_neg fun h' => h (Prod.ext (recvCell_iff.mp h'.1).2.1.symm (recvCell_iff.mp h'.1).2.2.symm)])
      (fun h => absurd (Finset.mem_univ _) h),
    tallyAt_apply, if_pos ⟨rfl, rfl⟩]

/-- The cells a device has credit for. -/
abbrev credIx : Unit ⊕ Slot → Kx
  | .inl _ => ixBar
  | .inr p => ixRecv p.1 p.2
/-- The semaphores that are waited for on credit. -/
abbrev credSem (k : Unit ⊕ Slot) : SemLoc sig := csem (credIx k)
/-- Different credits are waited for on different semaphores. -/
theorem credSem_injective : Function.Injective credSem := fun a b h => by
  have h' := csem_injective h
  rcases a with ⟨⟩ | ⟨c, t⟩ <;> rcases b with ⟨⟩ | ⟨c', t'⟩ <;> cases h' <;> rfl

omit [FloatOps F] in
/-- The launch gives each device the credits it waits for. -/
theorem creds (d : Dev nD) : (Pipeline.launchCred O₀ d : sProp 𝕄) ⊢ credits d := by
  unfold Pipeline.launchCred
  refine BIBase.Entails.trans (Q := bigSep (Finset.univ.map ⟨credSem, credSem_injective⟩) _) (bigSep_subset (Finset.subset_univ _)) ?_
  rw [bigSep_map, bigSep_univ_sum, show (Finset.univ : Finset Unit) = {()} from rfl, bigSep_singleton]
  unfold credits
  refine Entails.of_eq ?_
  refine congrArg₂ _ ?_ (bigSep_congr fun p _ => ?_)
  · refine congrArg cred ?_
    unfold tallyAt; refine congrArg _ (Finsupp.ext fun u => ?_); cases u
    rw [Pipeline.launchCredit_owing, Finsupp.single_eq_same]
    exact owed_bar d
  · refine congrArg cred ?_
    unfold tallyAt; refine congrArg _ (Finsupp.ext fun u => ?_); cases u
    rw [Pipeline.launchCredit_owing, Finsupp.single_eq_same]
    exact owed_recv d p.1 p.2

/-! ## The run -/

/-- The pieces make up what a device is started with. -/
theorem start_intro (d : Dev nD) :
    iprop(Pipeline.unscopedRestP Pipeline.Prefetch.none cfg0.spec d (fun b => m ((d : Thread nD τ).loc b)) ∗ levAts L lv
        ∗ Pipeline.launchCred O₀ d ∗ prngReg d (ρ d) ∗ G' m ρ d)
      ⊢ |={Set.univ}=> iprop(start m ρ d ∗ emp) := by
  iintro ⟨-, Hlev, Hcr, -, HG⟩
  ihave Hc := (creds (F := F) d) $$ Hcr
  imodintro
  unfold start G'
  isplitl
  · isplitl [HG]; · iexact HG
    isplitl [Hc]; · iexact Hc
    iexact Hlev
  · iempintro

/-- With its buffers, they are what the body starts from. -/
theorem phi0_intro (d : Dev nD) :
    iprop(start m ρ d ∗ Pipeline.prefHeld Pipeline.Prefetch.none d (fun _ => fullShare.right) (fun k => k.elim0) ∗ Pipeline.scopedRest cfg0.spec d)
      ⊢ (dats m ρ 0 d).Φ 0 := by
  rw [show (dats m ρ 0 d).Φ 0 = Φ₀ m ρ d from rfl, scopedRest0_eq]
  unfold Φ₀ scratch
  iintro ⟨Hs, -, Hr⟩
  isplitl [Hs]; · iexact Hs
  iexact Hr

/-- What the body ends with gives its buffers and counters back. -/
theorem phi1_exit (d : Dev nD) :
    (dats m ρ 0 d).Φ (Fin.last cfg0.N) ⊢ iprop(unscopedSems0 d ∗ Pipeline.ownSems0 osem d ∗ Pipeline.scopedRest cfg0.spec d) := by
  rw [show (dats m ρ 0 d).Φ (Fin.last cfg0.N) = Φ₁ d from rfl, scopedRest0_eq, unscopedSems0_eq]
  unfold Φ₁ scratch
  iintro ⟨Hr, Hz, HzB⟩
  isplitl [HzB]; · iexact HzB
  isplitl [Hz]; · iexact Hz
  iexact Hr

/-- The staging semaphores have no part in the exchange. -/
theorem stage_role (w : Fin cfg0.W) (s : Fin (cfg0.win w).nbuf) : role (.dma ((cfg0.win w).sem s)) = .other := by
  revert w s; decide +kernel

/-- The staging waits are below all that is owed. -/
theorem waits (d : Dev nD) : (levAts L lv : sProp 𝕄) ⊢ Pipeline.cellsWaits cfgs (dats m ρ) () 0 d :=
  Pipeline.cellsWaits_intro cfgs (dats m ρ) () 0 d fun w s t => by
    refine mayWait d _ _ ?_
    rw [show role (.dma ((cfgs 0).win w |>.sem s)) = .other from stage_role w s]
    rcases t with ⟨_ | _, ht⟩
    · exact above_O₀ d
    · exact above_zero 0

/-- What window `w`'s array holds at the end of the run. -/
def finalA (d : Dev nD) (w : Fin cfg0.W) : Buf (Elt F) ((cfg0.win w).arr.view.loc (d : Thread nD τ)) := (dats m ρ 0 d).arrAt w cfg0.N

/-- Every array ends as computed. -/
def QC : PUnit × MemSt nD τ sig (Elt F) → Prop := fun r =>
  ∀ d : Dev nD, ∀ w : Fin cfg0.W, r.2.mem ((cfg0.win w).arr.view.loc (d : Thread nD τ)) = finalA m ρ d w

set_option maxRecDepth 65536 in
/-- From any memory with zero counters, for any float values, every weakly fair run of the 32 devices ends, with each window's
    array at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun d => unscopedSems0 d) (Z := fun _ => iprop(emp))
    (hX := start_intro m ρ) (hin := phi0_intro m ρ) (hout := phi1_exit m ρ)
    (QY := fun d s => ∀ sm : SemLoc sig, sm.isScoped .tc = false → s.sem ((d.tc : Thread nD τ), sm) = 0)
    (hY := fun d s' => by
      iintro ⟨Hu, -, HSI⟩
      iapply (Pipeline.unscopedSems0_read (X := unscopedSems0 d) (c := d) fupd_intro s')
      isplitl [Hu] <;> iassumption)
    (hQ := fun _ h hs => ⟨fun d w => (h d).1 w, sem_eq_zero hs fun d => (h d).2.2⟩)

/-- The operands hold after the run what they held. -/
theorem finalA_in (d : Dev nD) : finalA m ρ d (0 : Fin 4) = m ((d : Thread nD τ).loc main_arg0)
    ∧ finalA m ρ d (1 : Fin 4) = m ((d : Thread nD τ).loc main_arg1) ∧ finalA m ρ d (2 : Fin 4) = m ((d : Thread nD τ).loc main_arg2) :=
  ⟨(dats (F := F) m ρ 0 d).arrAt_in (0 : Fin 4) rfl _, (dats (F := F) m ρ 0 d).arrAt_in (1 : Fin 4) rfl _,
    (dats (F := F) m ρ 0 d).arrAt_in (2 : Fin 4) rfl _⟩

end Cert.AllReduce

end
-- ==== Proof.Value.lean ====
/-
The value of the run, with exact arithmetic.

A chunk of the result starts as the product of this device's blocks of the weights, and each step adds the chunk of a
partner. After the five steps every device's chunk is the sum of the products of all thirty-two devices; their blocks
make up the whole of the contracted axis, so that sum is the product of the whole arrays.
-/
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.KernelVsHost
public import Idealize.ShloMosaic.Lib.IdealHost
public import Idealize.ShloMosaic.Lib.Layout

@[expose] public section

set_option maxRecDepth 16384

noncomputable section

namespace Cert.AllReduce

open Cert.KernelIdeal Cert.KernelIdeal.Gen
open Idealize.ShloMosaic Idealize.ShloMosaic.TcCoe Idealize.ShloMosaic.ValueIdx
open Idealize.SL.Sem
open scoped BigOperators

/-! ## The arrays at the two ends of the run -/

section Ends

variable {F : FTy → Type} [FloatOps F]
variable (m : (ℓ : Loc nD τ sig) → Buf (Elt F) ℓ) (ρ : Dev nD → PrngReg)

/-- The input block is the whole array. -/
theorem xAt_eq (d : Dev nD) : xAt m ρ d = m ((d : Thread nD τ).loc main_arg0) :=
  Memref.read_access_unit_zero (Elt F) main_arg0 (funext fun a => by fin_cases a <;> decide) (fun a => by fin_cases a <;> decide) _

/-- The block of the first weights is the whole of the device's part. -/
theorem w1At_eq (d : Dev nD) : w1At m ρ d = m ((d : Thread nD τ).loc main_arg1) :=
  Memref.read_access_unit_zero (Elt F) main_arg1 (funext fun a => by fin_cases a <;> decide) (fun a => by fin_cases a <;> decide) _

/-- The block of the second weights is the whole of the device's part. -/
theorem w2At_eq (d : Dev nD) : w2At m ρ d = m ((d : Thread nD τ).loc main_arg2) :=
  Memref.read_access_unit_zero (Elt F) main_arg2 (funext fun a => by fin_cases a <;> decide) (fun a => by fin_cases a <;> decide) _

/-- The result array ends as the chunks after the five steps. -/
theorem finalA_out (d : Dev nD) : finalA m ρ d (3 : Fin 4) = outAt m ρ d := by
  have ho : (win0_3.blk (0 : Fin 1)).view.read (Elt F) (finalA m ρ d (3 : Fin 4)) = outAt m ρ d := by
    unfold finalA
    rw [show cfg0.N = ((0 : Fin 1) : Fin cfg0.N).val + 1 from rfl, (dats m ρ 0 d).arrAt_succ (3 : Fin 4) (0 : Fin 1)]
    rw [show (cfg0.win (3 : Fin 4)).flush (0 : Fin 1) = true from by decide, if_pos rfl]
    exact View.read_write_univ _ _
  rw [← ho]
  exact (Memref.read_access_unit_zero (Elt F) main_v1 (funext fun a => by fin_cases a <;> decide)
    (fun a => by fin_cases a <;> decide) _).symm

end Ends

/-! ## Which devices a chunk has met -/

/-- The devices whose products chunk `c` of device `d` holds after `n` steps. -/
def met (c : Fin 8) : ℕ → Dev nD → List (Dev nD)
  | 0, d => [d]
  | n + 1, d => met c n d ++ met c n (mate c (Fin.ofNat 5 n) d)

set_option maxRecDepth 65536 in
/-- After five steps a chunk has met no device twice, -/
theorem met_nodup (c : Fin 8) (d : Dev nD) : (met c 5 d).Nodup := by revert c d; decide +kernel

/-- and it holds `2 ^ n` products after `n` steps, -/
theorem met_length (c : Fin 8) (n : ℕ) : ∀ d : Dev nD, (met c n d).length = 2 ^ n := by
  induction n with
  | zero => intro d; rfl
  | succ n ih => intro d; rw [met, List.length_append, ih, ih, Nat.pow_succ]; omega

/-- so it has met every device. -/
theorem met_all (c : Fin 8) (d : Dev nD) : (met c 5 d).toFinset = Finset.univ := by
  refine Finset.eq_univ_of_card _ ?_
  rw [List.toFinset_card_of_nodup (met_nodup c d), met_length]
  rfl

section Exact

variable (m : (ℓ : Loc nD τ sig) → Buf (Elt Ideal) ℓ) (ρ : Dev nD → PrngReg)

/-- After `n` steps chunk `c` is the sum of the products of the devices it has met. -/
theorem A_met (c : Fin 8) (i : S32x256.Idx) (n : ℕ) :
    ∀ d : Dev nD, (A m ρ c n d i : EReal) = ((met c n d).map fun e => (A m ρ c 0 e i : EReal)).sum := by
  induction n with
  | zero => intro d; simp [met]
  | succ n ih =>
    intro d
    rw [met, List.map_append, List.sum_append, ← ih, ← ih]
    rfl

/-- After the five steps chunk `c` is the sum of the products of all devices. -/
theorem A_all (c : Fin 8) (i : S32x256.Idx) (d : Dev nD) : (A m ρ c 5 d i : EReal) = ∑ e : Dev nD, (A m ρ c 0 e i : EReal) := by
  rw [A_met, ← met_all c d, List.sum_toFinset _ (met_nodup c d)]

end Exact

/-! ## The products -/

/-- What position `k` of the contracted axis adds to entry `(i, j)` of the result. -/
def term (x : FVec Ideal S256x256 .bf16) (W1 : FVec Ideal Cert.ReferenceIdeal.S256x16384 .bf16)
    (W2 : FVec Ideal Cert.ReferenceIdeal.S16384x256 .bf16) (i j : Fin 256) (k : Fin 16384) : EReal :=
  max (∑ l : Fin 256, (x (ix2 i l) : EReal) * W1 (ix2 l k)) 0 * W2 (ix2 k j)

/-- Position `k` of device `e`'s part of the contracted axis, in the whole axis. -/
def pos (e : Dev nD) (k : Fin 512) : Fin 16384 := ⟨e.val * 512 + k.val, by
  have he : (e : ℕ) < 32 := e.isLt
  omega⟩

/-- A device's product, read at an entry. -/
theorem product_apply (c : Fin 8) (x : FVec Ideal S256x256 .bf16) (w1 : FVec Ideal S256x512 .bf16) (w2 : FVec Ideal S512x256 .bf16)
    (r : Fin 32) (j i : Fin 256) (hi : i.val = 32 * c.val + r.val) :
    (product (F := Ideal) c x w1 w2 (ix2 r j) : EReal)
      = ∑ k : Fin 512, max (∑ l : Fin 256, (x (ix2 i l) : EReal) * w1 (ix2 l k)) 0 * w2 (ix2 k j) := by
  unfold product
  rw [shapeCast_self, shapeCast_self, shapeCast_self, matmul_zero_eq_dotGeneral, matmul_zero_eq_dotGeneral]
  show Host.dotGeneral (F := Ideal) (DotDims.plain 32 512 256) none _ _ (ix2 r j) = _
  rw [StackMember.dotGeneral_plain_apply]
  refine Finset.sum_congr rfl fun k _ => ?_
  refine congrArg (fun h : EReal => h * w2 (ix2 k j)) ?_
  show max (Host.dotGeneral (F := Ideal) (DotDims.plain 32 256 512) none _ _ (ix2 r k) : EReal) (Ideal.ofBits .f32 0x00000000#32) = _
  rw [StackMember.dotGeneral_plain_apply, Ideal.ofBits_zero_f32]
  refine congrArg (fun h : EReal => max h 0) (Finset.sum_congr rfl fun l _ => ?_)
  rw [extractStridedSlice_apply ![32 * c.val, 0] x (out_slices c) (ix2 r l) (ix2 i l) fun a => by
    fin_cases a
    · exact hi
    · exact (Nat.zero_add _).symm]

/-- With the device's parts of the whole weights, its product is its part of the sum over the contracted axis. -/
theorem product_part (c : Fin 8) (e : Dev nD) (x : FVec Ideal S256x256 .bf16) (W1 : FVec Ideal Cert.ReferenceIdeal.S256x16384 .bf16)
    (W2 : FVec Ideal Cert.ReferenceIdeal.S16384x256 .bf16) (r : Fin 32) (j i : Fin 256) (hi : i.val = 32 * c.val + r.val) :
    (product (F := Ideal) c x (Layout.block ⟨2, ![256, 512]⟩ ⟨2, ![256, 16384]⟩ 1 32 e W1)
        (Layout.block ⟨2, ![512, 256]⟩ ⟨2, ![16384, 256]⟩ 0 32 e W2) (ix2 r j) : EReal)
      = ∑ k : Fin 512, term x W1 W2 i j (pos e k) := by
  rw [product_apply c _ _ _ r j i hi]
  refine Finset.sum_congr rfl fun k _ => ?_
  unfold term
  have h1 : ∀ l : Fin 256, Layout.block ⟨2, ![256, 512]⟩ ⟨2, ![256, 16384]⟩ 1 32 e W1 (by decide) (ix2 l k) = W1 (ix2 l (pos e k)) :=
    fun l => congrArg W1 (funext fun a => Fin.ext (by fin_cases a <;> rfl))
  have h2 : Layout.block ⟨2, ![512, 256]⟩ ⟨2, ![16384, 256]⟩ 0 32 e W2 (by decide) (ix2 k j) = W2 (ix2 (pos e k) j) :=
    congrArg W2 (funext fun a => Fin.ext (by fin_cases a <;> rfl))
  rw [h2]
  exact congrArg (fun h : EReal => max h 0 * W2 (ix2 (pos e k) j)) (Finset.sum_congr rfl fun l _ => by rw [h1 l])

/-- The devices' parts make up the whole contracted axis. -/
theorem sum_parts (f : Fin 16384 → EReal) : ∑ e : Dev nD, ∑ k : Fin 512, f (pos e k) = ∑ k : Fin 16384, f k := by
  rw [← Fintype.sum_prod_type' (f := fun (e : Dev nD) (k : Fin 512) => f (pos e k))]
  refine (Finset.sum_congr rfl fun p _ => congrArg f ?_).trans (Equiv.sum_comp (finProdFinEquiv (m := 32) (n := 512)) f)
  refine Fin.ext ?_
  show p.1.val * 512 + p.2.val = p.2.val + 512 * p.1.val
  omega

/-! ## The reference -/

/-- The reference's result, as its operations compute it from whole arrays. -/
def whole (x : FVec Ideal Cert.ReferenceIdeal.S256x256 .bf16) (W1 : FVec Ideal Cert.ReferenceIdeal.S256x16384 .bf16)
    (W2 : FVec Ideal Cert.ReferenceIdeal.S16384x256 .bf16) : FVec Ideal Cert.ReferenceIdeal.S256x256 .bf16 :=
  truncf .bf16 (Host.dotGeneral Cert.ReferenceIdeal.dot_S256x16384_S16384x256_S256x256_1_0_0_1_n_n none
    (maximumf (truncf .bf16 (Host.dotGeneral Cert.ReferenceIdeal.dot_S256x256_S256x16384_S256x16384_1_0_0_1_n_n none x W1)
      Cert.ReferenceIdeal.Gen.bitsLt_bf16_f32)
      (broadcastInDim Cert.ReferenceIdeal.S256x16384 ![] Cert.ReferenceIdeal.Gen.bcast_S_S256x16384
        (constant Cert.ReferenceIdeal.S_ .bf16 0x0000#16))) W2) Cert.ReferenceIdeal.Gen.bitsLt_bf16_f32

/-- The reference's result, read at an entry. -/
theorem whole_apply (x : FVec Ideal Cert.ReferenceIdeal.S256x256 .bf16) (W1 : FVec Ideal Cert.ReferenceIdeal.S256x16384 .bf16)
    (W2 : FVec Ideal Cert.ReferenceIdeal.S16384x256 .bf16) (i j : Fin 256) :
    (whole x W1 W2 (ix2 i j) : EReal) = ∑ k : Fin 16384, term x W1 W2 i j k := by
  unfold whole
  show Host.dotGeneral (F := Ideal) (DotDims.plain 256 16384 256) none _ _ (ix2 i j) = _
  rw [StackMember.dotGeneral_plain_apply]
  refine Finset.sum_congr rfl fun k _ => congrArg (fun h : EReal => h * W2 (ix2 k j)) ?_
  show max (Host.dotGeneral (F := Ideal) (DotDims.plain 256 256 16384) none _ _ (ix2 i k) : EReal) (Ideal.ofBits .bf16 0x0000#16) = _
  rw [StackMember.dotGeneral_plain_apply, Ideal.ofBits_zero_bf16]

/-! ## The equation -/

/-- Where every device holds the whole input and its parts of the weights, every device's result is the reference's. -/
theorem outAt_eq (m : (ℓ : Loc nD τ sig) → Buf (Elt Ideal) ℓ) (ρ : Dev nD → PrngReg)
    (x : FVec Ideal S256x256 .bf16) (W1 : FVec Ideal Cert.ReferenceIdeal.S256x16384 .bf16)
    (W2 : FVec Ideal Cert.ReferenceIdeal.S16384x256 .bf16)
    (h : ∀ e : Dev nD, m ((e : Thread nD τ).loc main_arg0) = x
      ∧ m ((e : Thread nD τ).loc main_arg1) = Layout.block ⟨2, ![256, 512]⟩ ⟨2, ![256, 16384]⟩ 1 32 e W1
      ∧ m ((e : Thread nD τ).loc main_arg2) = Layout.block ⟨2, ![512, 256]⟩ ⟨2, ![16384, 256]⟩ 0 32 e W2)
    (d : Dev nD) : outAt m ρ d = whole x W1 W2 := by
  funext y
  obtain ⟨i, j, rfl⟩ : ∃ (i j : Fin 256), y = ix2 i j := ⟨y 0, y 1, eq_ix2 y⟩
  have hi : i.val < 256 := i.isLt
  let c : Fin 8 := ⟨i.val / 32, by omega⟩
  let r : Fin 32 := ⟨i.val % 32, Nat.mod_lt _ (by decide)⟩
  have hir : i.val = 32 * c.val + r.val := by show i.val = 32 * (i.val / 32) + i.val % 32; omega
  have hA : ∀ e : Dev nD, (A m ρ c 0 e (ix2 r j) : EReal) = ∑ k : Fin 512, term x W1 W2 i j (pos e k) := fun e => by
    show (product c (xAt m ρ e) (w1At m ρ e) (w2At m ρ e) (ix2 r j) : EReal) = _
    rw [xAt_eq, w1At_eq, w2At_eq, (h e).1, (h e).2.1, (h e).2.2]
    exact product_part c e x W1 W2 r j i hir
  have hix : outAt m ρ d (ix2 i j) = A m ρ c 5 d (ix2 r j) :=
    congrArg (A m ρ c 5 d) (funext fun a => by fin_cases a <;> rfl)
  refine hix.trans ((A_all m ρ c (ix2 r j) d).trans ?_)
  rw [whole_apply, Finset.sum_congr rfl fun e _ => hA e]
  exact sum_parts _

end Cert.AllReduce

end
-- ==== Proof.Claims.lean ====
/-
The claims of the certificate, from the run of the mesh and its value.
-/
module

public import proofs.«01_k».proof.Defs
public import proofs.«01_k».proof.Proof.Gen.Kernel
public import proofs.«01_k».proof.Proof.Value
public import Idealize.ShloMosaic.Lib.Quiescent

@[expose] public section

set_option maxRecDepth 16384

noncomputable section

namespace Cert.AllReduce

open Idealize.ShloMosaic Idealize.ShloMosaic.TcCoe Idealize.SL.Sem

/-- The run with the arguments unchanged and every counter at zero, for any float values. -/
theorem frame_run {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      fun r => (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2))
        ∧ r.2.sem = fun _ => 0 :=
  (θ_run Cert.KernelIdeal.defs _ _).mono
    (fun _ h => ⟨fun c => ⟨(h.1 c (0 : Fin 4)).trans (finalA_in m ρ c).1, (h.1 c (1 : Fin 4)).trans (finalA_in m ρ c).2.1,
      (h.1 c (2 : Fin 4)).trans (finalA_in m ρ c).2.2⟩, h.2⟩)
    (run_main m ρ)

/-- The bodies of the two programs, on bit patterns, are one text. -/
theorem defs₀_eq : Cert.Kernel.defs₀ (F := Bits) = Cert.KernelIdeal.defs₀ (F := Bits) := by
  unfold Cert.Kernel.defs₀ Cert.KernelIdeal.defs₀
  refine congrArg Defs.onTc (funext fun b => funext fun a => ?_)
  match b, a with
  | 0, (t, s) => rfl
  | ⟨_ + 1, h⟩, _ => exact absurd h (Nat.not_lt.2 (Nat.le_add_left _ _))

/-- So are their definitions. -/
theorem defs_eq : Cert.Kernel.defs (F := Bits) = Cert.KernelIdeal.defs (F := Bits) :=
  congrArg (Pipeline.defs (Cert.KernelIdeal.pcfgs (F := Bits))) defs₀_eq

/-- The kernel on bit patterns runs to its end on every device, leaves its arguments as they were and every counter at zero. -/
theorem frame_kernel : Cert.quiescent_Kernel := fun m ρ _ => by
  rw [defs_eq]
  exact frame_run (F := Bits) m ρ

/-- The same of the kernel with exact arithmetic. -/
theorem frame_kernelIdeal : Cert.quiescent_KernelIdeal := fun m ρ _ => frame_run (F := Ideal) m ρ

/-- The same of the reference, which has no counter. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- With exact arithmetic, every device's result is the reference's on the whole arrays. -/
theorem value : Cert.algebraic_KernelIdeal_ReferenceIdeal := by
  intro m ρ m' ρ' _ h
  refine ⟨whole _ _ _, ?_, (θ_run Cert.ReferenceIdeal.defs _ _).mono (fun _ hr => hr 0)
    (Cert.ReferenceIdeal.Value.run (F := Ideal) m' ρ')⟩
  exact (θ_run Cert.KernelIdeal.defs _ _).mono
    (fun _ hr c => ⟨(hr.1 c (3 : Fin 4)).trans ((finalA_out m ρ c).trans (outAt_eq m ρ _ _ _ h c)),
      (hr.1 c (0 : Fin 4)).trans (finalA_in m ρ c).1, (hr.1 c (1 : Fin 4)).trans (finalA_in m ρ c).2.1,
      (hr.1 c (2 : Fin 4)).trans (finalA_in m ρ c).2.2⟩)
    (run_main (F := Ideal) m ρ)

end Cert.AllReduce

end
-- ==== Proof.lean ====
/-
The certificate's proof. The run of the mesh and its value are proved in the modules under Proof/; here the claims are put
together in the order in which the certificate states them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.AllReduce.frame_kernel,
    Cert.AllReduce.frame_kernelIdeal, Cert.AllReduce.frame_reference, trivial, Cert.AllReduce.value⟩

end Cert.Proof

end
